-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_attention_inputs_finite [hPre_attention_inputs_finite : Cert.Pre_attention_inputs_finite.Facts] (m : (ℓ : Loc Cert.KernelIdeal.nD Cert.KernelIdeal.τ Cert.KernelIdeal.sig) → Buf (Elt Ideal) ℓ) : Prop :=
  ∀ c : Dev Cert.KernelIdeal.nD,
    (Cert.Pre_attention_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_attention_inputs_finite [hPre_attention_inputs_finite : Cert.Pre_attention_inputs_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_attention_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_attention_inputs_finite [hKernelIdeal : Cert.KernelIdeal.Facts] [hPre_attention_inputs_finite : Cert.Pre_attention_inputs_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_attention_inputs_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_attention_inputs_finite [hReferenceIdeal : Cert.ReferenceIdeal.Facts] [hPre_attention_inputs_finite : Cert.Pre_attention_inputs_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_attention_inputs_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def preserves_Kernel_KernelIdeal : Prop :=
  IdealRules.named_const.Statement Cert.KernelIdeal.κ "q_scale" .f32 0x3E38AA3B#32 (((1 / 8) * (Real.log 2)⁻¹ : ℝ) : EReal)

def algebraic_KernelIdeal_ReferenceIdeal_pre_attention_inputs_finite [hKernelIdeal : Cert.KernelIdeal.Facts] [hReferenceIdeal : Cert.ReferenceIdeal.Facts] [hPre_attention_inputs_finite : Cert.Pre_attention_inputs_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_attention_inputs_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v9)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v9) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v37) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v105_2)) (v1 : (c : Dev Cert.Kernel4Ideal.nD) → Buf (Elt Ideal) ((c.tc : Thread Cert.Kernel4Ideal.nD Cert.Kernel4Ideal.τ).loc Cert.Kernel4Ideal.main_v105_4)) (v2 : (c : Dev Cert.Kernel4Ideal.nD) → Buf (Elt Ideal) ((c.tc : Thread Cert.Kernel4Ideal.nD Cert.Kernel4Ideal.τ).loc Cert.Kernel4Ideal.main_v105_5)) (v3 : (c : Dev Cert.Kernel4Ideal.nD) → Buf (Elt Ideal) ((c.tc : Thread Cert.Kernel4Ideal.nD Cert.Kernel4Ideal.τ).loc Cert.Kernel4Ideal.main_v105_7)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v105_2) = v0 c
          ∧ r.2.mem ((c.tc : Thread Cert.Kernel4Ideal.nD Cert.Kernel4Ideal.τ).loc Cert.Kernel4Ideal.main_v105_4) = v1 c
          ∧ r.2.mem ((c.tc : Thread Cert.Kernel4Ideal.nD Cert.Kernel4Ideal.τ).loc Cert.Kernel4Ideal.main_v105_5) = v2 c
          ∧ r.2.mem ((c.tc : Thread Cert.Kernel4Ideal.nD Cert.Kernel4Ideal.τ).loc Cert.Kernel4Ideal.main_v105_7) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v21) = v0 c
          ∧ r.2.mem ((c.tc : Thread Cert.Reference4Ideal.nD Cert.Reference4Ideal.τ).loc Cert.Reference4Ideal.main_v22) = v1 c
          ∧ r.2.mem ((c.tc : Thread Cert.Reference4Ideal.nD Cert.Reference4Ideal.τ).loc Cert.Reference4Ideal.main_v23) = v2 c
          ∧ r.2.mem ((c.tc : Thread Cert.Reference4Ideal.nD Cert.Reference4Ideal.τ).loc Cert.Reference4Ideal.main_v24) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel4 : Cert.Kernel4.Facts) (hKernel4Ideal : Cert.Kernel4Ideal.Facts) (hReference4Ideal : Cert.Reference4Ideal.Facts) (hPre_attention_inputs_finite : Cert.Pre_attention_inputs_finite.Facts),
    quiescent_Kernel (hKernel := hKernel)
    ∧ quiescent_KernelIdeal (hKernelIdeal := hKernelIdeal)
    ∧ quiescent_KernelIdeal_pre_attention_inputs_finite (hKernelIdeal := hKernelIdeal) (hPre_attention_inputs_finite := hPre_attention_inputs_finite)
    ∧ quiescent_ReferenceIdeal (hReferenceIdeal := hReferenceIdeal)
    ∧ quiescent_ReferenceIdeal_pre_attention_inputs_finite (hReferenceIdeal := hReferenceIdeal) (hPre_attention_inputs_finite := hPre_attention_inputs_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_attention_inputs_finite (hKernelIdeal := hKernelIdeal) (hReferenceIdeal := hReferenceIdeal) (hPre_attention_inputs_finite := hPre_attention_inputs_finite)
    ∧ preserves_Kernel2_Kernel2Ideal
    ∧ algebraic_Kernel2Ideal_Reference2Ideal (hKernel2Ideal := hKernel2Ideal) (hReference2Ideal := hReference2Ideal)
    ∧ preserves_Kernel4_Kernel4Ideal
    ∧ algebraic_Kernel4Ideal_Reference4Ideal (hKernel4Ideal := hKernel4Ideal) (hReference4Ideal := hReference4Ideal)
-- ==== Pre_attention_inputs_finite.lean ====
abbrev S4x8192x8x64 : Shape := ⟨4, ![4, 8192, 8, 64]⟩
abbrev S4x8192x2x64 : Shape := ⟨4, ![4, 8192, 2, 64]⟩
abbrev S64 : Shape := ⟨1, ![64]⟩
abbrev S_ : Shape := ⟨0, ![]⟩

class Facts : Prop where
  bcast_S_S4x8192x8x64 : S_.BroadcastsInDim S4x8192x8x64 (![] : Fin 0 → Fin S4x8192x8x64.rank)
  reducesTo_S4x8192x8x64_S_d0_1_2_3 : S4x8192x8x64.ReducesTo [0, 1, 2, 3] S_
  h_S_ : 0 < S_.numel
  bcast_S_S4x8192x2x64 : S_.BroadcastsInDim S4x8192x2x64 (![] : Fin 0 → Fin S4x8192x2x64.rank)
  reducesTo_S4x8192x2x64_S_d0_1_2_3 : S4x8192x2x64.ReducesTo [0, 1, 2, 3] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S4x8192x8x64 .f32) (main_arg1 : FVec F S4x8192x2x64 .f32) (main_arg2 : FVec F S4x8192x2x64 .f32) (main_arg3 : FVec F S64 .f32) (main_arg4 : FVec F S64 .f32) : IVec S_ 1 :=
  let main_v0 : FVec F S4x8192x8x64 .f32 := Host.absf main_arg0
  let main_cst : FVec F S_ .f32 := constant S_ .f32 0x7F800000#32
  let main_v1 : FVec F S4x8192x8x64 .f32 := broadcastInDim S4x8192x8x64 ![] bcast_S_S4x8192x8x64 main_cst
  let main_v2 : IVec S4x8192x8x64 1 := cmpf .olt main_v0 main_v1
  let main_c : IVec S_ 1 := constantI S_ 1 1#1
  let main_v3 : IVec S_ 1 := (fun x v => Host.reduce IntOp.andi x v reducesTo_S4x8192x8x64_S_d0_1_2_3 h_S_) main_v2 main_c
  let main_v4 : FVec F S4x8192x2x64 .f32 := Host.absf main_arg1
  let main_cst_0 : FVec F S_ .f32 := constant S_ .f32 0x7F800000#32
  let main_v5 : FVec F S4x8192x2x64 .f32 := broadcastInDim S4x8192x2x64 ![] bcast_S_S4x8192x2x64 main_cst_0
  let main_v6 : IVec S4x8192x2x64 1 := cmpf .olt main_v4 main_v5
  let main_c_1 : IVec S_ 1 := constantI S_ 1 1#1
  let main_v7 : IVec S_ 1 := (fun x v => Host.reduce IntOp.andi x v reducesTo_S4x8192x2x64_S_d0_1_2_3 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S4x8192x8x64 : Shape := ⟨4, ![4, 8192, 8, 64]⟩
abbrev S4x8192x2x64 : Shape := ⟨4, ![4, 8192, 2, 64]⟩
abbrev S64 : Shape := ⟨1, ![64]⟩
abbrev S_ : Shape := ⟨0, ![]⟩
abbrev S64x1 : Shape := ⟨2, ![64, 1]⟩
abbrev S1024 : Shape := ⟨1, ![1024]⟩
abbrev S1x1024 : Shape := ⟨2, ![1, 1024]⟩
abbrev S64x1024 : Shape := ⟨2, ![64, 1024]⟩
abbrev S16 : Shape := ⟨1, ![16]⟩
abbrev S16x1 : Shape := ⟨2, ![16, 1]⟩
abbrev S512 : Shape := ⟨1, ![512]⟩
abbrev S1x512 : Shape := ⟨2, ![1, 512]⟩
abbrev S16x512 : Shape := ⟨2, ![16, 512]⟩
abbrev S4x32x256x2x4x64 : Shape := ⟨6, ![4, 32, 256, 2, 4, 64]⟩
abbrev S4x2x32x64x4x256 : Shape := ⟨6, ![4, 2, 32, 64, 4, 256]⟩
abbrev S4x2x32x64x1024 : Shape := ⟨5, ![4, 2, 32, 64, 1024]⟩
abbrev S4x2x32x128x1024 : Shape := ⟨5, ![4, 2, 32, 128, 1024]⟩
abbrev S4x16x512x2x64 : Shape := ⟨5, ![4, 16, 512, 2, 64]⟩
abbrev S4x16x2x64x512 : Shape := ⟨5, ![4, 16, 2, 64, 512]⟩
abbrev S4x16x2x16x512 : Shape := ⟨5, ![4, 16, 2, 16, 512]⟩
abbrev S4x16x2x80x512 : Shape := ⟨5, ![4, 16, 2, 80, 512]⟩
abbrev S4x16x160x512 : Shape := ⟨4, ![4, 16, 160, 512]⟩
abbrev S32768x2x64 : Shape := ⟨3, ![32768, 2, 64]⟩
abbrev S2x32768x64 : Shape := ⟨3, ![2, 32768, 64]⟩
abbrev S2x32768x128 : Shape := ⟨3, ![2, 32768, 128]⟩
abbrev S32768x512 : Shape := ⟨2, ![32768, 512]⟩
abbrev S1x1x4x128x1024 : Shape := ⟨5, ![1, 1, 4, 128, 1024]⟩
abbrev S1x8192x128 : Shape := ⟨3, ![1, 8192, 128]⟩
abbrev S1x16x80x512 : Shape := ⟨4, ![1, 16, 80, 512]⟩
abbrev S1024x256 : Shape := ⟨2, ![1024, 256]⟩
abbrev S1x1x1x128x1024 : Shape := ⟨5, ![1, 1, 1, 128, 1024]⟩
abbrev S128x1024 : Shape := ⟨2, ![128, 1024]⟩
abbrev S80x1024 : Shape := ⟨2, ![80, 1024]⟩
abbrev S1x512x128 : Shape := ⟨3, ![1, 512, 128]⟩
abbrev S512x128 : Shape := ⟨2, ![512, 128]⟩
abbrev S512x1024 : Shape := ⟨2, ![512, 1024]⟩
abbrev S1x1x80x512 : Shape := ⟨4, ![1, 1, 80, 512]⟩
abbrev S80x512 : Shape := ⟨2, ![80, 512]⟩
abbrev S64x256 : Shape := ⟨2, ![64, 256]⟩
abbrev S256x64 : Shape := ⟨2, ![256, 64]⟩
abbrev S256x256 : Shape := ⟨2, ![256, 256]⟩

abbrev nBuf : Space → Nat
  | .hbm => 71
  | .vmem => 8
  | .smem => 0
  | _ => 0

abbrev bufTy : (tb : Table) → Fin (tcTables nBuf tb) → BufTy
  | .hbm, ⟨0, _⟩ => ⟨S4x8192x8x64, .f32⟩
  | .hbm, ⟨1, _⟩ => ⟨S4x8192x2x64, .f32⟩
  | .hbm, ⟨2, _⟩ => ⟨S4x8192x2x64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S64, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S64, .i32⟩
  | .hbm, ⟨15, _⟩ => ⟨S64x1, .i32⟩
  | .hbm, ⟨16, _⟩ => ⟨S_, .i32⟩
  | .hbm, ⟨17, _⟩ => ⟨S64x1, .i32⟩
  | .hbm, ⟨18, _⟩ => ⟨S64x1, .i1⟩
  | .hbm, ⟨19, _⟩ => ⟨S1024, .i32⟩
  | .hbm, ⟨20, _⟩ => ⟨S1x1024, .i32⟩
  | .hbm, ⟨21, _⟩ => ⟨S_, .i32⟩
  | .hbm, ⟨22, _⟩ => ⟨S1x1024, .i32⟩
  | .hbm, ⟨23, _⟩ => ⟨S1x1024, .i1⟩
  | .hbm, ⟨24, _⟩ => ⟨S64x1024, .i1⟩
  | .hbm, ⟨25, _⟩ => ⟨S64x1024, .i1⟩
  | .hbm, ⟨26, _⟩ => ⟨S64x1024, .i1⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S64x1024, .f32⟩
  | .hbm, ⟨31, _⟩ => ⟨S64x1024, .f32⟩
  | .hbm, ⟨32, _⟩ => ⟨S64x1024, .f32⟩
  | .hbm, ⟨33, _⟩ => ⟨S64x1024, .bf16⟩
  | .hbm, ⟨34, _⟩ => ⟨S16, .i32⟩
  | .hbm, ⟨35, _⟩ => ⟨S16x1, .i32⟩
  | .hbm, ⟨36, _⟩ => ⟨S_, .i32⟩
  | .hbm, ⟨37, _⟩ => ⟨S16x1, .i32⟩
  | .hbm, ⟨38, _⟩ => ⟨S16x1, .i1⟩
  | .hbm, ⟨39, _⟩ => ⟨S512, .i32⟩
  | .hbm, ⟨40, _⟩ => ⟨S1x512, .i32⟩
  | .hbm, ⟨41, _⟩ => ⟨S_, .i32⟩
  | .hbm, ⟨42, _⟩ => ⟨S1x512, .i32⟩
  | .hbm, ⟨43, _⟩ => ⟨S1x512, .i1⟩
  | .hbm, ⟨44, _⟩ => ⟨S16x512, .i1⟩
  | .hbm, ⟨45, _⟩ => ⟨S16x512, .i1⟩
  | .hbm, ⟨46, _⟩ => ⟨S16x512, .i1⟩
  | .hbm, ⟨47, _⟩ => ⟨S16x512, .bf16⟩
  | .hbm, ⟨48, _⟩ => ⟨S4x8192x8x64, .bf16⟩
  | .hbm, ⟨49, _⟩ => ⟨S4x32x256x2x4x64, .bf16⟩
  | .hbm, ⟨50, _⟩ => ⟨S4x2x32x64x4x256, .bf16⟩
  | .hbm, ⟨51, _⟩ => ⟨S4x2x32x64x1024, .bf16⟩
  | .hbm, ⟨52, _⟩ => ⟨S4x2x32x64x1024, .bf16⟩
  | .hbm, ⟨53, _⟩ => ⟨S4x2x32x128x1024, .bf16⟩
  | .hbm, ⟨54, _⟩ => ⟨S4x8192x2x64, .bf16⟩
  | .hbm, ⟨55, _⟩ => ⟨S4x16x512x2x64, .bf16⟩
  | .hbm, ⟨56, _⟩ => ⟨S4x16x2x64x512, .bf16⟩
  | .hbm, ⟨57, _⟩ => ⟨S4x16x2x16x512, .bf16⟩
  | .hbm, ⟨58, _⟩ => ⟨S4x16x2x80x512, .bf16⟩
  | .hbm, ⟨59, _⟩ => ⟨S4x16x160x512, .bf16⟩
  | .hbm, ⟨60, _⟩ => ⟨S4x8192x2x64, .bf16⟩
  | .hbm, ⟨61, _⟩ => ⟨S32768x2x64, .bf16⟩
  | .hbm, ⟨62, _⟩ => ⟨S2x32768x64, .bf16⟩
  | .hbm, ⟨63, _⟩ => ⟨S64, .i32⟩
  | .hbm, ⟨64, _⟩ => ⟨S_, .i32⟩
  | .hbm, ⟨65, _⟩ => ⟨S64, .i32⟩
  | .hbm, ⟨66, _⟩ => ⟨S64, .i1⟩
  | .hbm, ⟨67, _⟩ => ⟨S64, .bf16⟩
  | .hbm, ⟨68, _⟩ => ⟨S2x32768x64, .bf16⟩
  | .hbm, ⟨69, _⟩ => ⟨S2x32768x128, .bf16⟩
  | .hbm, ⟨70, _⟩ => ⟨S32768x512, .bf16⟩
  | .local _ .vmem, ⟨0, _⟩ => ⟨S1x1x4x128x1024, .bf16⟩
  | .local _ .vmem, ⟨1, _⟩ => ⟨S1x1x4x128x1024, .bf16⟩
  | .local _ .vmem, ⟨2, _⟩ => ⟨S1x8192x128, .bf16⟩
  | .local _ .vmem, ⟨3, _⟩ => ⟨S1x8192x128, .bf16⟩
  | .local _ .vmem, ⟨4, _⟩ => ⟨S1x16x80x512, .bf16⟩
  | .local _ .vmem, ⟨5, _⟩ => ⟨S1x16x80x512, .bf16⟩
  | .local _ .vmem, ⟨6, _⟩ => ⟨S1024x256, .bf16⟩
  | .local _ .vmem, ⟨7, _⟩ => ⟨S1024x256, .bf16⟩
  | _, _ => ⟨S4x8192x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_c_5 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_c_6 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 8], ![false, false, false]⟩

def cc0_transform_0 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S1x1x4x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x16x80x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "q_scale" => some (((1 / 8) * (Real.log 2)⁻¹ : ℝ) : EReal)
  | _ => none
-- ==== ReferenceIdeal.lean ====
abbrev S4x8192x8x64 : Shape := ⟨4, ![4, 8192, 8, 64]⟩
abbrev S4x8192x2x64 : Shape := ⟨4, ![4, 8192, 2, 64]⟩
abbrev S64 : Shape := ⟨1, ![64]⟩
abbrev S4x8192x2x4x64 : Shape := ⟨5, ![4, 8192, 2, 4, 64]⟩
abbrev S4x2x8192x8192x4 : Shape := ⟨5, ![4, 2, 8192, 8192, 4]⟩
abbrev S4x2x4x8192x8192 : Shape := ⟨5, ![4, 2, 4, 8192, 8192]⟩
abbrev S_ : Shape := ⟨0, ![]⟩
abbrev S4x2x4x8192 : Shape := ⟨4, ![4, 2, 4, 8192]⟩
abbrev S4x2x4x8192x1 : Shape := ⟨5, ![4, 2, 4, 8192, 1]⟩
abbrev S4x2x64x4x8192 : Shape := ⟨5, ![4, 2, 64, 4, 8192]⟩
abbrev S32768x512 : Shape := ⟨2, ![32768, 512]⟩

abbrev nBuf : Space → Nat
  | .hbm => 29
  | .vmem => 0
  | .smem => 0
  | _ => 0

abbrev bufTy : (tb : Table) → Fin (tcTables nBuf tb) → BufTy
  | .hbm, ⟨0, _⟩ => ⟨S4x8192x8x64, .f32⟩
  | .hbm, ⟨1, _⟩ => ⟨S4x8192x2x64, .f32⟩
  | .hbm, ⟨2, _⟩ => ⟨S4x8192x2x64, .f32⟩
  | .hbm, ⟨3, _⟩ => ⟨S64, .f32⟩
  | .hbm, ⟨4, _⟩ => ⟨S64, .f32⟩
  | .hbm, ⟨5, _⟩ => ⟨S4x8192x2x4x64, .f32⟩
  | .hbm, ⟨6, _⟩ => ⟨S4x2x8192x8192x4, .f32⟩
  | .hbm, ⟨7, _⟩ => ⟨S4x2x4x8192x8192, .f32⟩
  | .hbm, ⟨8, _⟩ => ⟨S_, .f32⟩
  | .hbm, ⟨9, _⟩ => ⟨S4x2x4x8192x8192, .f32⟩
  | .hbm, ⟨10, _⟩ => ⟨S4x2x4x8192x8192, .f32⟩
  | .hbm, ⟨11, _⟩ => ⟨S_, .f32⟩
  | .hbm, ⟨12, _⟩ => ⟨S4x2x4x8192, .f32⟩
  | .hbm, ⟨13, _⟩ => ⟨S_, .f32⟩
  | .hbm, ⟨14, _⟩ => ⟨S4x2x4x8192, .f32⟩
  | .hbm, ⟨15, _⟩ => ⟨S4x2x4x8192, .f32⟩
  | .hbm, ⟨16, _⟩ => ⟨S4x2x4x8192x1, .f32⟩
  | .hbm, ⟨17, _⟩ => ⟨S4x2x4x8192x8192, .f32⟩
  | .hbm, ⟨18, _⟩ => ⟨S4x2x4x8192x8192, .f32⟩
  | .hbm, ⟨19, _⟩ => ⟨S4x2x4x8192x8192, .f32⟩
  | .hbm, ⟨20, _⟩ => ⟨S_, .f32⟩
  | .hbm, ⟨21, _⟩ => ⟨S4x2x4x8192, .f32⟩
  | .hbm, ⟨22, _⟩ => ⟨S4x2x4x8192x1, .f32⟩
  | .hbm, ⟨23, _⟩ => ⟨S4x2x4x8192x8192, .f32⟩
  | .hbm, ⟨24, _⟩ => ⟨S4x2x4x8192x8192, .f32⟩
  | .hbm, ⟨25, _⟩ => ⟨S4x2x64x4x8192, .f32⟩
  | .hbm, ⟨26, _⟩ => ⟨S4x8192x2x4x64, .f32⟩
  | .hbm, ⟨27, _⟩ => ⟨S32768x512, .f32⟩
  | .hbm, ⟨28, _⟩ => ⟨S32768x512, .bf16⟩
  | _, _ => ⟨S4x8192x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]
-- ==== Kernel2.lean ====
abbrev S4x8192x1024 : Shape := ⟨3, ![4, 8192, 1024]⟩
abbrev S2x1024x4096 : Shape := ⟨3, ![2, 1024, 4096]⟩
abbrev S2x4096x1024 : Shape := ⟨3, ![2, 4096, 1024]⟩
abbrev S2x1024 : Shape := ⟨2, ![2, 1024]⟩
abbrev S32768x1024 : Shape := ⟨2, ![32768, 1024]⟩
abbrev S1x1024 : Shape := ⟨2, ![1, 1024]⟩
abbrev S1024 : Shape := ⟨1, ![1024]⟩
abbrev S1024x1024 : Shape := ⟨2, ![1024, 1024]⟩
abbrev S1x1024x1024 : Shape := ⟨3, ![1, 1024, 1024]⟩
abbrev S1024x1 : Shape := ⟨2, ![1024, 1]⟩

abbrev nBuf : Space → Nat
  | .hbm => 15
  | .vmem => 12
  | .smem => 0
  | _ => 0

abbrev bufTy : (tb : Table) → Fin (tcTables nBuf tb) → BufTy
  | .hbm, ⟨0, _⟩ => ⟨S4x8192x1024, .f32⟩
  | .hbm, ⟨1, _⟩ => ⟨S2x1024x4096, .f32⟩
  | .hbm, ⟨2, _⟩ => ⟨S2x4096x1024, .f32⟩
  | .hbm, ⟨3, _⟩ => ⟨S2x1024, .f32⟩
  | .hbm, ⟨4, _⟩ => ⟨S2x1024, .f32⟩
  | .hbm, ⟨5, _⟩ => ⟨S2x1024x4096, .bf16⟩
  | .hbm, ⟨6, _⟩ => ⟨S2x4096x1024, .bf16⟩
  | .hbm, ⟨7, _⟩ => ⟨S32768x1024, .f32⟩
  | .hbm, ⟨8, _⟩ => ⟨S1x1024, .f32⟩
  | .hbm, ⟨9, _⟩ => ⟨S1024, .f32⟩
  | .hbm, ⟨10, _⟩ => ⟨S1x1024, .f32⟩
  | .hbm, ⟨11, _⟩ => ⟨S1024, .f32⟩
  | .hbm, ⟨12, _⟩ => ⟨S1x1024, .f32⟩
  | .hbm, ⟨13, _⟩ => ⟨S1x1024, .f32⟩
  | .hbm, ⟨14, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024x1024, .bf16⟩
  | .local _ .vmem, ⟨3, _⟩ => ⟨S1x1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![32, 4], ![false, false]⟩

def k0_cond2 (i : grid0.Coords) : BitVec 1 :=
  let arg1 : BitVec 32 := BitVec.ofNat 32 (i 1).val
  let c3_i32 : BitVec 32 := 3#32
  let v19 : BitVec 1 := Scalar.cmpi .eq arg1 c3_i32
  let v20 : BitVec 32 := Scalar.extui v19
  let c0_i32_14 : BitVec 32 := 0#32
  let v21 : BitVec 1 := Scalar.cmpi .ne v20 c0_i32_14
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference2Ideal.lean ====
abbrev S4x8192x1024 : Shape := ⟨3, ![4, 8192, 1024]⟩
abbrev S2x1024x4096 : Shape := ⟨3, ![2, 1024, 4096]⟩
abbrev S2x4096x1024 : Shape := ⟨3, ![2, 4096, 1024]⟩
abbrev S2x1024 : Shape := ⟨2, ![2, 1024]⟩
abbrev S1x1024x4096 : Shape := ⟨3, ![1, 1024, 4096]⟩
abbrev S1024x4096 : Shape := ⟨2, ![1024, 4096]⟩
abbrev S4x8192x4096 : Shape := ⟨3, ![4, 8192, 4096]⟩
abbrev S_ : Shape := ⟨0, ![]⟩
abbrev S1x4096x1024 : Shape := ⟨3, ![1, 4096, 1024]⟩
abbrev S4096x1024 : Shape := ⟨2, ![4096, 1024]⟩
abbrev S1x1024 : Shape := ⟨2, ![1, 1024]⟩
abbrev S1024 : Shape := ⟨1, ![1024]⟩
abbrev S4x8192 : Shape := ⟨2, ![4, 8192]⟩
abbrev S4x8192x1 : Shape := ⟨3, ![4, 8192, 1]⟩
abbrev S1x1x1024 : Shape := ⟨3, ![1, 1, 1024]⟩
abbrev S32768x1024 : Shape := ⟨2, ![32768, 1024]⟩

abbrev nBuf : Space → Nat
  | .hbm => 51
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S2x1024x4096, .f32⟩
  | .hbm, ⟨2, _⟩ => ⟨S2x4096x1024, .f32⟩
  | .hbm, ⟨3, _⟩ => ⟨S2x1024, .f32⟩
  | .hbm, ⟨4, _⟩ => ⟨S2x1024, .f32⟩
  | .hbm, ⟨5, _⟩ => ⟨S1x1024x4096, .f32⟩
  | .hbm, ⟨6, _⟩ => ⟨S1024x4096, .f32⟩
  | .hbm, ⟨7, _⟩ => ⟨S4x8192x4096, .f32⟩
  | .hbm, ⟨8, _⟩ => ⟨S_, .f32⟩
  | .hbm, ⟨9, _⟩ => ⟨S4x8192x4096, .f32⟩
  | .hbm, ⟨10, _⟩ => ⟨S4x8192x4096, .f32⟩
  | .hbm, ⟨11, _⟩ => ⟨S4x8192x4096, .f32⟩
  | .hbm, ⟨12, _⟩ => ⟨S1x4096x1024, .f32⟩
  | .hbm, ⟨13, _⟩ => ⟨S4096x1024, .f32⟩
  | .hbm, ⟨14, _⟩ => ⟨S4x8192x1024, .f32⟩
  | .hbm, ⟨15, _⟩ => ⟨S_, .f32⟩
  | .hbm, ⟨16, _⟩ => ⟨S4x8192x1024, .f32⟩
  | .hbm, ⟨17, _⟩ => ⟨S4x8192x1024, .f32⟩
  | .hbm, ⟨18, _⟩ => ⟨S4x8192x1024, .f32⟩
  | .hbm, ⟨19, _⟩ => ⟨S1x1024, .f32⟩
  | .hbm, ⟨20, _⟩ => ⟨S1024, .f32⟩
  | .hbm, ⟨21, _⟩ => ⟨S1x1024, .f32⟩
  | .hbm, ⟨22, _⟩ => ⟨S1024, .f32⟩
  | .hbm, ⟨23, _⟩ => ⟨S_, .f32⟩
  | .hbm, ⟨24, _⟩ => ⟨S4x8192, .f32⟩
  | .hbm, ⟨25, _⟩ => ⟨S4x8192x1, .f32⟩
  | .hbm, ⟨26, _⟩ => ⟨S_, .f32⟩
  | .hbm, ⟨27, _⟩ => ⟨S4x8192x1, .f32⟩
  | .hbm, ⟨28, _⟩ => ⟨S4x8192x1, .f32⟩
  | .hbm, ⟨29, _⟩ => ⟨S4x8192x1024, .f32⟩
  | .hbm, ⟨30, _⟩ => ⟨S4x8192x1024, .f32⟩
  | .hbm, ⟨31, _⟩ => ⟨S4x8192x1024, .f32⟩
  | .hbm, ⟨32, _⟩ => ⟨S_, .f32⟩
  | .hbm, ⟨33, _⟩ => ⟨S4x8192, .f32⟩
  | .hbm, ⟨34, _⟩ => ⟨S4x8192x1, .f32⟩
  | .hbm, ⟨35, _⟩ => ⟨S_, .f32⟩
  | .hbm, ⟨36, _⟩ => ⟨S4x8192x1, .f32⟩
  | .hbm, ⟨37, _⟩ => ⟨S4x8192x1, .f32⟩
  | .hbm, ⟨38, _⟩ => ⟨S_, .f32⟩
  | .hbm, ⟨39, _⟩ => ⟨S4x8192x1, .f32⟩
  | .hbm, ⟨40, _⟩ => ⟨S4x8192x1, .f32⟩
  | .hbm, ⟨41, _⟩ => ⟨S4x8192x1, .f32⟩
  | .hbm, ⟨42, _⟩ => ⟨S4x8192x1024, .f32⟩
  | .hbm, ⟨43, _⟩ => ⟨S4x8192x1024, .f32⟩
  | .hbm, ⟨44, _⟩ => ⟨S1x1x1024, .f32⟩
  | .hbm, ⟨45, _⟩ => ⟨S4x8192x1024, .f32⟩
  | .hbm, ⟨46, _⟩ => ⟨S4x8192x1024, .f32⟩
  | .hbm, ⟨47, _⟩ => ⟨S1x1x1024, .f32⟩
  | .hbm, ⟨48, _⟩ => ⟨S4x8192x1024, .f32⟩
  | .hbm, ⟨49, _⟩ => ⟨S4x8192x1024, .f32⟩
  | .hbm, ⟨50, _⟩ => ⟨S32768x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_cst : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== Kernel4.lean ====
abbrev S4x8192x1024 : Shape := ⟨3, ![4, 8192, 1024]⟩
abbrev S2x1024x5888 : Shape := ⟨3, ![2, 1024, 5888]⟩
abbrev S2x64 : Shape := ⟨2, ![2, 64]⟩
abbrev S2x1024x512 : Shape := ⟨3, ![2, 1024, 512]⟩
abbrev S2x1024x128 : Shape := ⟨3, ![2, 1024, 128]⟩
abbrev S2x1024x1152 : Shape := ⟨3, ![2, 1024, 1152]⟩
abbrev S2x1152x1024 : Shape := ⟨3, ![2, 1152, 1024]⟩
abbrev S32768x1024 : Shape := ⟨2, ![32768, 1024]⟩
abbrev S1x64 : Shape := ⟨2, ![1, 64]⟩
abbrev S64 : Shape := ⟨1, ![64]⟩
abbrev S8192 : Shape := ⟨1, ![8192]⟩
abbrev S_ : Shape := ⟨0, ![]⟩
abbrev S16 : Shape := ⟨1, ![16]⟩
abbrev S8192x1 : Shape := ⟨2, ![8192, 1]⟩
abbrev S1x16 : Shape := ⟨2, ![1, 16]⟩
abbrev S8192x16 : Shape := ⟨2, ![8192, 16]⟩
abbrev S8192x64 : Shape := ⟨2, ![8192, 64]⟩
abbrev S1x8192x1x64 : Shape := ⟨4, ![1, 8192, 1, 64]⟩
abbrev S1x8192x2x64 : Shape := ⟨4, ![1, 8192, 2, 64]⟩
abbrev S8192x128 : Shape := ⟨2, ![8192, 128]⟩
abbrev S64x8192 : Shape := ⟨2, ![64, 8192]⟩
abbrev S64x1 : Shape := ⟨2, ![64, 1]⟩
abbrev S64x512 : Shape := ⟨2, ![64, 512]⟩
abbrev S128 : Shape := ⟨1, ![128]⟩
abbrev S1x128 : Shape := ⟨2, ![1, 128]⟩
abbrev S128x1 : Shape := ⟨2, ![128, 1]⟩
abbrev S128x128 : Shape := ⟨2, ![128, 128]⟩
abbrev S1024 : Shape := ⟨1, ![1024]⟩
abbrev S1x1024 : Shape := ⟨2, ![1, 1024]⟩
abbrev S64x1024 : Shape := ⟨2, ![64, 1024]⟩
abbrev S16x1 : Shape := ⟨2, ![16, 1]⟩
abbrev S512 : Shape := ⟨1, ![512]⟩
abbrev S1x512 : Shape := ⟨2, ![1, 512]⟩
abbrev S16x512 : Shape := ⟨2, ![16, 512]⟩
abbrev S4x2x32x128x1024 : Shape := ⟨5, ![4, 2, 32, 128, 1024]⟩
abbrev S4x16x160x512 : Shape := ⟨4, ![4, 16, 160, 512]⟩
abbrev S4x512x8192 : Shape := ⟨3, ![4, 512, 8192]⟩
abbrev S2x32768x128 : Shape := ⟨3, ![2, 32768, 128]⟩
abbrev S8x32768x64 : Shape := ⟨3, ![8, 32768, 64]⟩
abbrev S32x512x1024 : Shape := ⟨3, ![32, 512, 1024]⟩
abbrev S32768x3072 : Shape := ⟨2, ![32768, 3072]⟩
abbrev S512x1024 : Shape := ⟨2, ![512, 1024]⟩
abbrev S1x1152x1024 : Shape := ⟨3, ![1, 1152, 1024]⟩
abbrev S1x1024x5888 : Shape := ⟨3, ![1, 1024, 5888]⟩
abbrev S512x128 : Shape := ⟨2, ![512, 128]⟩
abbrev S1x2x2x128x1024 : Shape := ⟨5, ![1, 2, 2, 128, 1024]⟩
abbrev S1x1x160x512 : Shape := ⟨4, ![1, 1, 160, 512]⟩
abbrev S1x512x512 : Shape := ⟨3, ![1, 512, 512]⟩
abbrev S2x512x128 : Shape := ⟨3, ![2, 512, 128]⟩
abbrev S8x512x64 : Shape := ⟨3, ![8, 512, 64]⟩
abbrev S32x32x256 : Shape := ⟨3, ![32, 32, 256]⟩
abbrev S512x3072 : Shape := ⟨2, ![512, 3072]⟩
abbrev S4x512x128 : Shape := ⟨3, ![4, 512, 128]⟩
abbrev S1152x1024 : Shape := ⟨2, ![1152, 1024]⟩
abbrev S1152x512 : Shape := ⟨2, ![1152, 512]⟩
abbrev S64x256 : Shape := ⟨2, ![64, 256]⟩
abbrev S1x1x1x64x256 : Shape := ⟨5, ![1, 1, 1, 64, 256]⟩
abbrev S1x1x1x64x1024 : Shape := ⟨5, ![1, 1, 1, 64, 1024]⟩
abbrev S128x512 : Shape := ⟨2, ![128, 512]⟩
abbrev S1x1x64x512 : Shape := ⟨4, ![1, 1, 64, 512]⟩
abbrev S1x1x16x512 : Shape := ⟨4, ![1, 1, 16, 512]⟩
abbrev S512x512 : Shape := ⟨2, ![512, 512]⟩
abbrev S1x1024x128 : Shape := ⟨3, ![1, 1024, 128]⟩
abbrev S1024x128 : Shape := ⟨2, ![1024, 128]⟩
abbrev S1x512x128 : Shape := ⟨3, ![1, 512, 128]⟩
abbrev S1x1024x512 : Shape := ⟨3, ![1, 1024, 512]⟩
abbrev S1024x512 : Shape := ⟨2, ![1024, 512]⟩
abbrev S512x64 : Shape := ⟨2, ![512, 64]⟩
abbrev S1x512x64 : Shape := ⟨3, ![1, 512, 64]⟩
abbrev S32x128 : Shape := ⟨2, ![32, 128]⟩
abbrev S1x32x128 : Shape := ⟨3, ![1, 32, 128]⟩
abbrev S1x1024x1024 : Shape := ⟨3, ![1, 1024, 1024]⟩
abbrev S1024x1024 : Shape := ⟨2, ![1024, 1024]⟩

abbrev nBuf : Space → Nat
  | .hbm => 205
  | .vmem => 34
  | .smem => 0
  | _ => 0

abbrev hbmTy0_0 (i : Nat) : BufTy := match i % 128 with
  | 0 => ⟨S4x8192x1024, .f32⟩
  | 1 => ⟨S2x1024x5888, .f32⟩
  | 2 => ⟨S2x64, .f32⟩
  | 3 => ⟨S2x64, .f32⟩
  | 4 => ⟨S2x1024x5888, .bf16⟩
  | 5 => ⟨S2x1024x512, .bf16⟩
  | 6 => ⟨S2x1024x128, .bf16⟩
  | 7 => ⟨S2x1024x512, .bf16⟩
  | 8 => ⟨S2x1024x1152, .bf16⟩
  | 9 => ⟨S2x1152x1024, .bf16⟩
  | 10 => ⟨S32768x1024, .f32⟩
  | 11 => ⟨S1x64, .f32⟩
  | 12 => ⟨S64, .f32⟩
  | 13 => ⟨S1x64, .f32⟩
  | 14 => ⟨S64, .f32⟩
  | 15 => ⟨S8192, .i32⟩
  | 16 => ⟨S_, .i32⟩
  | 17 => ⟨S_, .i32⟩
  | 18 => ⟨S8192, .i32⟩
  | 19 => ⟨S8192, .i32⟩
  | 20 => ⟨S8192, .i32⟩
  | 21 => ⟨S_, .i32⟩
  | 22 => ⟨S8192, .i32⟩
  | 23 => ⟨S8192, .i1⟩
  | 24 => ⟨S8192, .i32⟩
  | 25 => ⟨S8192, .i32⟩
  | 26 => ⟨S_, .i32⟩
  | 27 => ⟨S8192, .i32⟩
  | 28 => ⟨S8192, .i1⟩
  | 29 => ⟨S8192, .i1⟩
  | 30 => ⟨S_, .i32⟩
  | 31 => ⟨S8192, .i32⟩
  | 32 => ⟨S8192, .i32⟩
  | 33 => ⟨S8192, .i32⟩
  | 34 => ⟨S8192, .f32⟩
  | 35 => ⟨S_, .i32⟩
  | 36 => ⟨S_, .i32⟩
  | 37 => ⟨S_, .i32⟩
  | 38 => ⟨S_, .i1⟩
  | 39 => ⟨S_, .i32⟩
  | 40 => ⟨S_, .i32⟩
  | 41 => ⟨S8192, .i32⟩
  | 42 => ⟨S8192, .i32⟩
  | 43 => ⟨S_, .i32⟩
  | 44 => ⟨S8192, .i32⟩
  | 45 => ⟨S8192, .i1⟩
  | 46 => ⟨S_, .i32⟩
  | 47 => ⟨S8192, .i32⟩
  | 48 => ⟨S8192, .i1⟩
  | 49 => ⟨S_, .i32⟩
  | 50 => ⟨S_, .i1⟩
  | 51 => ⟨S8192, .i1⟩
  | 52 => ⟨S8192, .i1⟩
  | 53 => ⟨S8192, .i1⟩
  | 54 => ⟨S8192, .i32⟩
  | 55 => ⟨S8192, .i32⟩
  | 56 => ⟨S8192, .i32⟩
  | 57 => ⟨S8192, .f32⟩
  | 58 => ⟨S16, .f32⟩
  | 59 => ⟨S_, .f32⟩
  | 60 => ⟨S16, .f32⟩
  | 61 => ⟨S16, .f32⟩
  | 62 => ⟨S_, .f32⟩
  | 63 => ⟨S16, .f32⟩
  | 64 => ⟨S16, .f32⟩
  | 65 => ⟨S_, .f32⟩
  | 66 => ⟨S16, .f32⟩
  | 67 => ⟨S16, .f32⟩
  | 68 => ⟨S_, .f32⟩
  | 69 => ⟨S16, .f32⟩
  | 70 => ⟨S16, .f32⟩
  | 71 => ⟨S_, .f32⟩
  | 72 => ⟨S16, .f32⟩
  | 73 => ⟨S16, .f32⟩
  | 74 => ⟨S8192x1, .f32⟩
  | 75 => ⟨S1x16, .f32⟩
  | 76 => ⟨S8192x16, .f32⟩
  | 77 => ⟨S8192x16, .f32⟩
  | 78 => ⟨S8192x16, .f32⟩
  | 79 => ⟨S8192x1, .f32⟩
  | 80 => ⟨S1x16, .f32⟩
  | 81 => ⟨S8192x16, .f32⟩
  | 82 => ⟨S8192x16, .f32⟩
  | 83 => ⟨S8192x16, .f32⟩
  | 84 => ⟨S8192x16, .f32⟩
  | 85 => ⟨S8192x16, .f32⟩
  | 86 => ⟨S8192x16, .f32⟩
  | 87 => ⟨S8192x16, .f32⟩
  | 88 => ⟨S8192x64, .f32⟩
  | 89 => ⟨S8192x16, .f32⟩
  | 90 => ⟨S8192x16, .f32⟩
  | 91 => ⟨S8192x16, .f32⟩
  | 92 => ⟨S8192x16, .f32⟩
  | 93 => ⟨S8192x16, .f32⟩
  | 94 => ⟨S8192x16, .f32⟩
  | 95 => ⟨S8192x64, .f32⟩
  | 96 => ⟨S1x8192x1x64, .f32⟩
  | 97 => ⟨S1x8192x2x64, .f32⟩
  | 98 => ⟨S8192x128, .f32⟩
  | 99 => ⟨S1x8192x1x64, .f32⟩
  | 100 => ⟨S1x8192x2x64, .f32⟩
  | 101 => ⟨S8192x128, .f32⟩
  | 102 => ⟨S64x8192, .f32⟩
  | 103 => ⟨S64x8192, .f32⟩
  | 104 => ⟨S64x1, .f32⟩
  | 105 => ⟨S64x512, .f32⟩
  | 106 => ⟨S1x64, .f32⟩
  | 107 => ⟨S2x64, .f32⟩
  | 108 => ⟨S128, .f32⟩
  | 109 => ⟨S1x128, .f32⟩
  | 110 => ⟨S128, .i32⟩
  | 111 => ⟨S128x1, .i32⟩
  | 112 => ⟨S_, .i32⟩
  | 113 => ⟨S_, .i32⟩
  | 114 => ⟨S128x1, .i32⟩
  | 115 => ⟨S128x1, .i32⟩
  | 116 => ⟨S128x1, .i32⟩
  | 117 => ⟨S_, .i32⟩
  | 118 => ⟨S128x1, .i32⟩
  | 119 => ⟨S128x1, .i1⟩
  | 120 => ⟨S128x1, .i32⟩
  | 121 => ⟨S128x1, .i32⟩
  | 122 => ⟨S_, .i32⟩
  | 123 => ⟨S128x1, .i32⟩
  | 124 => ⟨S128x1, .i1⟩
  | 125 => ⟨S128x1, .i1⟩
  | 126 => ⟨S_, .i32⟩
  | 127 => ⟨S128x1, .i32⟩
  | _ => ⟨S4x8192x1024, .f32⟩

abbrev hbmTy0_1 (i : Nat) : BufTy := match i % 128 with
  | 0 => ⟨S128x1, .i32⟩
  | 1 => ⟨S128x1, .i32⟩
  | 2 => ⟨S128, .i32⟩
  | 3 => ⟨S1x128, .i32⟩
  | 4 => ⟨S_, .i32⟩
  | 5 => ⟨S_, .i32⟩
  | 6 => ⟨S1x128, .i32⟩
  | 7 => ⟨S1x128, .i32⟩
  | 8 => ⟨S1x128, .i32⟩
  | 9 => ⟨S_, .i32⟩
  | 10 => ⟨S1x128, .i32⟩
  | 11 => ⟨S1x128, .i1⟩
  | 12 => ⟨S1x128, .i32⟩
  | 13 => ⟨S1x128, .i32⟩
  | 14 => ⟨S_, .i32⟩
  | 15 => ⟨S1x128, .i32⟩
  | 16 => ⟨S1x128, .i1⟩
  | 17 => ⟨S1x128, .i1⟩
  | 18 => ⟨S_, .i32⟩
  | 19 => ⟨S1x128, .i32⟩
  | 20 => ⟨S1x128, .i32⟩
  | 21 => ⟨S1x128, .i32⟩
  | 22 => ⟨S128x128, .i32⟩
  | 23 => ⟨S128x128, .i32⟩
  | 24 => ⟨S128x128, .i1⟩
  | 25 => ⟨S128x128, .bf16⟩
  | 26 => ⟨S64, .f32⟩
  | 27 => ⟨S_, .f32⟩
  | 28 => ⟨S_, .f32⟩
  | 29 => ⟨S_, .f32⟩
  | 30 => ⟨S_, .f32⟩
  | 31 => ⟨S64, .f32⟩
  | 32 => ⟨S_, .f32⟩
  | 33 => ⟨S_, .f32⟩
  | 34 => ⟨S_, .f32⟩
  | 35 => ⟨S64, .i32⟩
  | 36 => ⟨S64x1, .i32⟩
  | 37 => ⟨S_, .i32⟩
  | 38 => ⟨S64x1, .i32⟩
  | 39 => ⟨S64x1, .i1⟩
  | 40 => ⟨S1024, .i32⟩
  | 41 => ⟨S1x1024, .i32⟩
  | 42 => ⟨S_, .i32⟩
  | 43 => ⟨S1x1024, .i32⟩
  | 44 => ⟨S1x1024, .i1⟩
  | 45 => ⟨S64x1024, .i1⟩
  | 46 => ⟨S64x1024, .i1⟩
  | 47 => ⟨S64x1024, .i1⟩
  | 48 => ⟨S_, .f32⟩
  | 49 => ⟨S_, .f32⟩
  | 50 => ⟨S_, .f32⟩
  | 51 => ⟨S64x1024, .f32⟩
  | 52 => ⟨S64x1024, .f32⟩
  | 53 => ⟨S64x1024, .f32⟩
  | 54 => ⟨S64x1024, .bf16⟩
  | 55 => ⟨S16, .i32⟩
  | 56 => ⟨S16x1, .i32⟩
  | 57 => ⟨S_, .i32⟩
  | 58 => ⟨S16x1, .i32⟩
  | 59 => ⟨S16x1, .i1⟩
  | 60 => ⟨S512, .i32⟩
  | 61 => ⟨S1x512, .i32⟩
  | 62 => ⟨S_, .i32⟩
  | 63 => ⟨S1x512, .i32⟩
  | 64 => ⟨S1x512, .i1⟩
  | 65 => ⟨S16x512, .i1⟩
  | 66 => ⟨S16x512, .i1⟩
  | 67 => ⟨S16x512, .i1⟩
  | 68 => ⟨S16x512, .bf16⟩
  | 69 => ⟨S4x2x32x128x1024, .bf16⟩
  | 70 => ⟨S4x16x160x512, .bf16⟩
  | 71 => ⟨S4x512x8192, .bf16⟩
  | 72 => ⟨S2x32768x128, .bf16⟩
  | 73 => ⟨S8x32768x64, .bf16⟩
  | 74 => ⟨S8x32768x64, .bf16⟩
  | 75 => ⟨S32x512x1024, .bf16⟩
  | 76 => ⟨S32768x3072, .bf16⟩
  | _ => ⟨S4x8192x1024, .f32⟩

abbrev hbmTy (i : Nat) : BufTy := match i / 128 with
  | 0 => hbmTy0_0 i
  | 1 => hbmTy0_1 i
  | _ => ⟨S4x8192x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S1x1152x1024, .bf16⟩
  | .local _ .vmem, ⟨3, _⟩ => ⟨S1x1024x5888, .bf16⟩
  | .local _ .vmem, ⟨4, _⟩ => ⟨S64x512, .f32⟩
  | .local _ .vmem, ⟨5, _⟩ => ⟨S1x128, .f32⟩
  | .local _ .vmem, ⟨6, _⟩ => ⟨S64x512, .f32⟩
  | .local _ .vmem, ⟨7, _⟩ => ⟨S64x512, .f32⟩
  | .local _ .vmem, ⟨8, _⟩ => ⟨S64x512, .f32⟩
  | .local _ .vmem, ⟨9, _⟩ => ⟨S64x512, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S128x128, .bf16⟩
  | .local _ .vmem, ⟨15, _⟩ => ⟨S64x1024, .bf16⟩
  | .local _ .vmem, ⟨16, _⟩ => ⟨S16x512, .bf16⟩
  | .local _ .vmem, ⟨17, _⟩ => ⟨S1x2x2x128x1024, .bf16⟩
  | .local _ .vmem, ⟨18, _⟩ => ⟨S1x2x2x128x1024, .bf16⟩
  | .local _ .vmem, ⟨19, _⟩ => ⟨S1x1x160x512, .bf16⟩
  | .local _ .vmem, ⟨20, _⟩ => ⟨S1x1x160x512, .bf16⟩
  | .local _ .vmem, ⟨21, _⟩ => ⟨S1x512x512, .bf16⟩
  | .local _ .vmem, ⟨22, _⟩ => ⟨S1x512x512, .bf16⟩
  | .local _ .vmem, ⟨23, _⟩ => ⟨S2x512x128, .bf16⟩
  | .local _ .vmem, ⟨24, _⟩ => ⟨S2x512x128, .bf16⟩
  | .local _ .vmem, ⟨25, _⟩ => ⟨S8x512x64, .bf16⟩
  | .local _ .vmem, ⟨26, _⟩ => ⟨S8x512x64, .bf16⟩
  | .local _ .vmem, ⟨27, _⟩ => ⟨S8x512x64, .bf16⟩
  | .local _ .vmem, ⟨28, _⟩ => ⟨S8x512x64, .bf16⟩
  | .local _ .vmem, ⟨29, _⟩ => ⟨S32x32x256, .bf16⟩
  | .local _ .vmem, ⟨30, _⟩ => ⟨S32x32x256, .bf16⟩
  | .local _ .vmem, ⟨31, _⟩ => ⟨S512x3072, .bf16⟩
  | .local _ .vmem, ⟨32, _⟩ => ⟨S512x3072, .bf16⟩
  | .local _ .vmem, ⟨33, _⟩ => ⟨S4x512x128, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_c : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_c : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_0 : Ref sig .tc := ⟨.hbm, 30, rfl⟩
abbrev main_call0_v12 : Ref sig .tc := ⟨.hbm, 31, rfl⟩
abbrev main_call0_v13 : Ref sig .tc := ⟨.hbm, 32, rfl⟩
abbrev main_v12 : Ref sig .tc := ⟨.hbm, 33, rfl⟩
abbrev main_v13 : Ref sig .tc := ⟨.hbm, 34, rfl⟩
abbrev main_c_0 : Ref sig .tc := ⟨.hbm, 35, rfl⟩
abbrev main_call1_v0 : Ref sig .tc := ⟨.hbm, 36, rfl⟩
abbrev main_call1_c : Ref sig .tc := ⟨.hbm, 37, rfl⟩
abbrev main_call1_v1 : Ref sig .tc := ⟨.hbm, 38, rfl⟩
abbrev main_call1_c_0 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_c_1 : Ref sig .tc := ⟨.hbm, 43, rfl⟩
abbrev main_call1_v5 : Ref sig .tc := ⟨.hbm, 44, rfl⟩
abbrev main_call1_v6 : Ref sig .tc := ⟨.hbm, 45, rfl⟩
abbrev main_call1_c_2 : Ref sig .tc := ⟨.hbm, 46, rfl⟩
abbrev main_call1_v7 : Ref sig .tc := ⟨.hbm, 47, rfl⟩
abbrev main_call1_v8 : Ref sig .tc := ⟨.hbm, 48, rfl⟩
abbrev main_call1_c_3 : Ref sig .tc := ⟨.hbm, 49, rfl⟩
abbrev main_call1_v9 : Ref sig .tc := ⟨.hbm, 50, rfl⟩
abbrev main_call1_v10 : Ref sig .tc := ⟨.hbm, 51, rfl⟩
abbrev main_call1_v11 : Ref sig .tc := ⟨.hbm, 52, rfl⟩
abbrev main_call1_v12 : Ref sig .tc := ⟨.hbm, 53, rfl⟩
abbrev main_call1_v13 : Ref sig .tc := ⟨.hbm, 54, rfl⟩
abbrev main_call1_v14 : Ref sig .tc := ⟨.hbm, 55, rfl⟩
abbrev main_v14 : Ref sig .tc := ⟨.hbm, 56, rfl⟩
abbrev main_v15 : Ref sig .tc := ⟨.hbm, 57, rfl⟩
abbrev main_v16 : Ref sig .tc := ⟨.hbm, 58, rfl⟩
abbrev main_cst : Ref sig .tc := ⟨.hbm, 59, rfl⟩
abbrev main_v17 : Ref sig .tc := ⟨.hbm, 60, rfl⟩
abbrev main_v18 : Ref sig .tc := ⟨.hbm, 61, rfl⟩
abbrev main_cst_1 : Ref sig .tc := ⟨.hbm, 62, rfl⟩
abbrev main_v19 : Ref sig .tc := ⟨.hbm, 63, rfl⟩
abbrev main_v20 : Ref sig .tc := ⟨.hbm, 64, rfl⟩
abbrev main_cst_2 : Ref sig .tc := ⟨.hbm, 65, rfl⟩
abbrev main_v21 : Ref sig .tc := ⟨.hbm, 66, rfl⟩
abbrev main_v22 : Ref sig .tc := ⟨.hbm, 67, rfl⟩
abbrev main_cst_3 : Ref sig .tc := ⟨.hbm, 68, rfl⟩
abbrev main_v23 : Ref sig .tc := ⟨.hbm, 69, rfl⟩
abbrev main_v24 : Ref sig .tc := ⟨.hbm, 70, rfl⟩
abbrev main_cst_4 : Ref sig .tc := ⟨.hbm, 71, rfl⟩
abbrev main_v25 : Ref sig .tc := ⟨.hbm, 72, rfl⟩
abbrev main_v26 : Ref sig .tc := ⟨.hbm, 73, rfl⟩
abbrev main_v27 : Ref sig .tc := ⟨.hbm, 74, rfl⟩
abbrev main_v28 : Ref sig .tc := ⟨.hbm, 75, rfl⟩
abbrev main_v29 : Ref sig .tc := ⟨.hbm, 76, rfl⟩
abbrev main_v30 : Ref sig .tc := ⟨.hbm, 77, rfl⟩
abbrev main_v31 : Ref sig .tc := ⟨.hbm, 78, rfl⟩
abbrev main_v32 : Ref sig .tc := ⟨.hbm, 79, rfl⟩
abbrev main_v33 : Ref sig .tc := ⟨.hbm, 80, rfl⟩
abbrev main_v34 : Ref sig .tc := ⟨.hbm, 81, rfl⟩
abbrev main_v35 : Ref sig .tc := ⟨.hbm, 82, rfl⟩
abbrev main_v36 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_v40 : Ref sig .tc := ⟨.hbm, 87, rfl⟩
abbrev main_v41 : Ref sig .tc := ⟨.hbm, 88, rfl⟩
abbrev main_v42 : Ref sig .tc := ⟨.hbm, 89, rfl⟩
abbrev main_v43 : Ref sig .tc := ⟨.hbm, 90, rfl⟩
abbrev main_v44 : Ref sig .tc := ⟨.hbm, 91, rfl⟩
abbrev main_v45 : Ref sig .tc := ⟨.hbm, 92, rfl⟩
abbrev main_v46 : Ref sig .tc := ⟨.hbm, 93, rfl⟩
abbrev main_v47 : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_c_5 : Ref sig .tc := ⟨.hbm, 112, rfl⟩
abbrev main_call2_v0 : Ref sig .tc := ⟨.hbm, 113, rfl⟩
abbrev main_call2_v1 : Ref sig .tc := ⟨.hbm, 114, rfl⟩
abbrev main_call2_v2 : Ref sig .tc := ⟨.hbm, 115, rfl⟩
abbrev main_call2_v3 : Ref sig .tc := ⟨.hbm, 116, rfl⟩
abbrev main_call2_v4 : Ref sig .tc := ⟨.hbm, 117, rfl⟩
abbrev main_call2_v5 : Ref sig .tc := ⟨.hbm, 118, rfl⟩
abbrev main_call2_v6 : Ref sig .tc := ⟨.hbm, 119, rfl⟩
abbrev main_call2_v7 : Ref sig .tc := ⟨.hbm, 120, rfl⟩
abbrev main_call2_v8 : Ref sig .tc := ⟨.hbm, 121, rfl⟩
abbrev main_call2_c : Ref sig .tc := ⟨.hbm, 122, rfl⟩
abbrev main_call2_v9 : Ref sig .tc := ⟨.hbm, 123, rfl⟩
abbrev main_call2_v10 : Ref sig .tc := ⟨.hbm, 124, rfl⟩
abbrev main_call2_v11 : Ref sig .tc := ⟨.hbm, 125, rfl⟩
abbrev main_call2_c_0 : Ref sig .tc := ⟨.hbm, 126, rfl⟩
abbrev main_call2_v12 : Ref sig .tc := ⟨.hbm, 127, rfl⟩
abbrev main_call2_v13 : Ref sig .tc := ⟨.hbm, 128, rfl⟩
abbrev main_v65 : Ref sig .tc := ⟨.hbm, 129, rfl⟩
abbrev main_v66 : Ref sig .tc := ⟨.hbm, 130, rfl⟩
abbrev main_v67 : Ref sig .tc := ⟨.hbm, 131, rfl⟩
abbrev main_c_6 : Ref sig .tc := ⟨.hbm, 132, rfl⟩
abbrev main_call3_v0 : Ref sig .tc := ⟨.hbm, 133, rfl⟩
abbrev main_call3_v1 : Ref sig .tc := ⟨.hbm, 134, rfl⟩
abbrev main_call3_v2 : Ref sig .tc := ⟨.hbm, 135, rfl⟩
abbrev main_call3_v3 : Ref sig .tc := ⟨.hbm, 136, rfl⟩
abbrev main_call3_v4 : Ref sig .tc := ⟨.hbm, 137, rfl⟩
abbrev main_call3_v5 : Ref sig .tc := ⟨.hbm, 138, rfl⟩
abbrev main_call3_v6 : Ref sig .tc := ⟨.hbm, 139, rfl⟩
abbrev main_call3_v7 : Ref sig .tc := ⟨.hbm, 140, rfl⟩
abbrev main_call3_v8 : Ref sig .tc := ⟨.hbm, 141, rfl⟩
abbrev main_call3_c : Ref sig .tc := ⟨.hbm, 142, rfl⟩
abbrev main_call3_v9 : Ref sig .tc := ⟨.hbm, 143, rfl⟩
abbrev main_call3_v10 : Ref sig .tc := ⟨.hbm, 144, rfl⟩
abbrev main_call3_v11 : Ref sig .tc := ⟨.hbm, 145, rfl⟩
abbrev main_call3_c_0 : Ref sig .tc := ⟨.hbm, 146, rfl⟩
abbrev main_call3_v12 : Ref sig .tc := ⟨.hbm, 147, rfl⟩
abbrev main_call3_v13 : Ref sig .tc := ⟨.hbm, 148, rfl⟩
abbrev main_v68 : Ref sig .tc := ⟨.hbm, 149, rfl⟩
abbrev main_v69 : Ref sig .tc := ⟨.hbm, 150, rfl⟩
abbrev main_v70 : Ref sig .tc := ⟨.hbm, 151, rfl⟩
abbrev main_v71 : Ref sig .tc := ⟨.hbm, 152, rfl⟩
abbrev main_v72 : Ref sig .tc := ⟨.hbm, 153, rfl⟩
abbrev main_v73 : Ref sig .tc := ⟨.hbm, 154, rfl⟩
abbrev main_cst_7 : Ref sig .tc := ⟨.hbm, 155, rfl⟩
abbrev main_v74 : Ref sig .tc := ⟨.hbm, 156, rfl⟩
abbrev main_cst_8 : Ref sig .tc := ⟨.hbm, 157, rfl⟩
abbrev main_v75 : Ref sig .tc := ⟨.hbm, 158, rfl⟩
abbrev main_v76 : Ref sig .tc := ⟨.hbm, 159, rfl⟩
abbrev main_cst_9 : Ref sig .tc := ⟨.hbm, 160, rfl⟩
abbrev main_v77 : Ref sig .tc := ⟨.hbm, 161, rfl⟩
abbrev main_v78 : Ref sig .tc := ⟨.hbm, 162, rfl⟩
abbrev main_v79 : Ref sig .tc := ⟨.hbm, 163, rfl⟩
abbrev main_v80 : Ref sig .tc := ⟨.hbm, 164, rfl⟩
abbrev main_c_10 : Ref sig .tc := ⟨.hbm, 165, rfl⟩
abbrev main_v81 : Ref sig .tc := ⟨.hbm, 166, rfl⟩
abbrev main_v82 : Ref sig .tc := ⟨.hbm, 167, rfl⟩
abbrev main_v83 : Ref sig .tc := ⟨.hbm, 168, rfl⟩
abbrev main_v84 : Ref sig .tc := ⟨.hbm, 169, rfl⟩
abbrev main_c_11 : Ref sig .tc := ⟨.hbm, 170, rfl⟩
abbrev main_v85 : Ref sig .tc := ⟨.hbm, 171, rfl⟩
abbrev main_v86 : Ref sig .tc := ⟨.hbm, 172, rfl⟩
abbrev main_v87 : Ref sig .tc := ⟨.hbm, 173, rfl⟩
abbrev main_v88 : Ref sig .tc := ⟨.hbm, 174, rfl⟩
abbrev main_v89 : Ref sig .tc := ⟨.hbm, 175, rfl⟩
abbrev main_v90 : Ref sig .tc := ⟨.hbm, 176, rfl⟩
abbrev main_cst_12 : Ref sig .tc := ⟨.hbm, 177, rfl⟩
abbrev main_call4_v0 : Ref sig .tc := ⟨.hbm, 178, rfl⟩
abbrev main_call4_v1 : Ref sig .tc := ⟨.hbm, 179, rfl⟩
abbrev main_call4_v2 : Ref sig .tc := ⟨.hbm, 180, rfl⟩
abbrev main_v91 : Ref sig .tc := ⟨.hbm, 181, rfl⟩
abbrev main_v92 : Ref sig .tc := ⟨.hbm, 182, rfl⟩
abbrev main_v93 : Ref sig .tc := ⟨.hbm, 183, rfl⟩
abbrev main_v94 : Ref sig .tc := ⟨.hbm, 184, rfl⟩
abbrev main_c_13 : Ref sig .tc := ⟨.hbm, 185, rfl⟩
abbrev main_v95 : Ref sig .tc := ⟨.hbm, 186, rfl⟩
abbrev main_v96 : Ref sig .tc := ⟨.hbm, 187, rfl⟩
abbrev main_v97 : Ref sig .tc := ⟨.hbm, 188, rfl⟩
abbrev main_v98 : Ref sig .tc := ⟨.hbm, 189, rfl⟩
abbrev main_c_14 : Ref sig .tc := ⟨.hbm, 190, rfl⟩
abbrev main_v99 : Ref sig .tc := ⟨.hbm, 191, rfl⟩
abbrev main_v100 : Ref sig .tc := ⟨.hbm, 192, rfl⟩
abbrev main_v101 : Ref sig .tc := ⟨.hbm, 193, rfl⟩
abbrev main_v102 : Ref sig .tc := ⟨.hbm, 194, rfl⟩
abbrev main_v103 : Ref sig .tc := ⟨.hbm, 195, rfl⟩
abbrev main_v104 : Ref sig .tc := ⟨.hbm, 196, rfl⟩
abbrev main_v105_0 : Ref sig .tc := ⟨.hbm, 197, rfl⟩
abbrev main_v105_1 : Ref sig .tc := ⟨.hbm, 198, rfl⟩
abbrev main_v105_2 : Ref sig .tc := ⟨.hbm, 199, rfl⟩
abbrev main_v105_3 : Ref sig .tc := ⟨.hbm, 200, rfl⟩
abbrev main_v105_4 : Ref sig .tc := ⟨.hbm, 201, rfl⟩
abbrev main_v105_5 : Ref sig .tc := ⟨.hbm, 202, rfl⟩
abbrev main_v105_6 : Ref sig .tc := ⟨.hbm, 203, rfl⟩
abbrev main_v105_7 : Ref sig .tc := ⟨.hbm, 204, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg18_1 : Ref sig .tc := ⟨.vmem, 30, rfl⟩
abbrev cc0_stg19_0 : Ref sig .tc := ⟨.vmem, 31, rfl⟩
abbrev cc0_stg19_1 : Ref sig .tc := ⟨.vmem, 32, rfl⟩
abbrev cc0_scratch0 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28
abbrev cc0_sem18_0 : DmaSem sig := 29
abbrev cc0_sem18_1 : DmaSem sig := 30
abbrev cc0_sem19_0 : DmaSem sig := 31
abbrev cc0_sem19_1 : DmaSem sig := 32

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![c0_i32_3.toNat, v9.toNat]

def cc0_transform_6 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![c0_i32_3.toNat, v9.toNat]

def cc0_transform_7 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 5 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  let c0_i32_13 : BitVec 32 := 0#32
  ![v16.toNat, c0_i32_10.toNat, v26.toNat, c0_i32_11.toNat, c0_i32_12.toNat]

def cc0_transform_13 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_14 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_18 (i : grid0.Coords) : Fin 3 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c16_i32_3 : BitVec 32 := 16#32
  let v10 : BitVec 32 := Scalar.divsi arg0 c16_i32_3
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c0_i32_6 : BitVec 32 := 0#32
  let v16 : BitVec 1 := Scalar.cmpi .sgt c16_i32_3 c0_i32_6
  let v17 : BitVec 32 := Scalar.extui v16
  let c0_i32_7 : BitVec 32 := 0#32
  let v18 : BitVec 1 := Scalar.cmpi .slt c16_i32_3 c0_i32_7
  let v19 : BitVec 32 := Scalar.extui v18
  let v20 : BitVec 32 := Scalar.subi v17 v19
  let v21 : BitVec 1 := Scalar.cmpi .ne v15 v20
  let v22 : BitVec 32 := Scalar.remsi arg0 c16_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  let c0_i32_11 : BitVec 32 := 0#32
  ![c0_i32_10.toNat, v9.toNat, v26.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1152x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x5888 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S64x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S16x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1x2x2x128x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x1x160x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S2x512x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S8x512x64 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S8x512x64 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S32x32x256 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x3072 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== Reference4Ideal.lean ====
abbrev S4x8192x1024 : Shape := ⟨3, ![4, 8192, 1024]⟩
abbrev S2x1024x5888 : Shape := ⟨3, ![2, 1024, 5888]⟩
abbrev S2x64 : Shape := ⟨2, ![2, 64]⟩
abbrev S1x1024x5888 : Shape := ⟨3, ![1, 1024, 5888]⟩
abbrev S1024x5888 : Shape := ⟨2, ![1024, 5888]⟩
abbrev S4x8192x5888 : Shape := ⟨3, ![4, 8192, 5888]⟩
abbrev S4x8192x512 : Shape := ⟨3, ![4, 8192, 512]⟩
abbrev S4x8192x3072 : Shape := ⟨3, ![4, 8192, 3072]⟩
abbrev S_ : Shape := ⟨0, ![]⟩
abbrev S32768x3072 : Shape := ⟨2, ![32768, 3072]⟩
abbrev S4x512x8192 : Shape := ⟨3, ![4, 512, 8192]⟩
abbrev S32768x8x64 : Shape := ⟨3, ![32768, 8, 64]⟩
abbrev S8x32768x64 : Shape := ⟨3, ![8, 32768, 64]⟩

abbrev nBuf : Space → Nat
  | .hbm => 32
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S2x1024x5888, .f32⟩
  | .hbm, ⟨2, _⟩ => ⟨S2x64, .f32⟩
  | .hbm, ⟨3, _⟩ => ⟨S2x64, .f32⟩
  | .hbm, ⟨4, _⟩ => ⟨S1x1024x5888, .f32⟩
  | .hbm, ⟨5, _⟩ => ⟨S1024x5888, .f32⟩
  | .hbm, ⟨6, _⟩ => ⟨S4x8192x5888, .f32⟩
  | .hbm, ⟨7, _⟩ => ⟨S4x8192x512, .f32⟩
  | .hbm, ⟨8, _⟩ => ⟨S4x8192x512, .f32⟩
  | .hbm, ⟨9, _⟩ => ⟨S4x8192x512, .f32⟩
  | .hbm, ⟨10, _⟩ => ⟨S4x8192x3072, .f32⟩
  | .hbm, ⟨11, _⟩ => ⟨S4x8192x3072, .f32⟩
  | .hbm, ⟨12, _⟩ => ⟨S4x8192x3072, .f32⟩
  | .hbm, ⟨13, _⟩ => ⟨S_, .f32⟩
  | .hbm, ⟨14, _⟩ => ⟨S4x8192x3072, .f32⟩
  | .hbm, ⟨15, _⟩ => ⟨S4x8192x3072, .f32⟩
  | .hbm, ⟨16, _⟩ => ⟨S_, .f32⟩
  | .hbm, ⟨17, _⟩ => ⟨S4x8192x3072, .f32⟩
  | .hbm, ⟨18, _⟩ => ⟨S4x8192x3072, .f32⟩
  | .hbm, ⟨19, _⟩ => ⟨S32768x3072, .f32⟩
  | .hbm, ⟨20, _⟩ => ⟨S4x512x8192, .f32⟩
  | .hbm, ⟨21, _⟩ => ⟨S32768x8x64, .f32⟩
  | .hbm, ⟨22, _⟩ => ⟨S8x32768x64, .f32⟩
  | .hbm, ⟨23, _⟩ => ⟨S_, .f32⟩
  | .hbm, ⟨24, _⟩ => ⟨S8x32768x64, .f32⟩
  | .hbm, ⟨25, _⟩ => ⟨S8x32768x64, .f32⟩
  | .hbm, ⟨26, _⟩ => ⟨S32768x8x64, .f32⟩
  | .hbm, ⟨27, _⟩ => ⟨S8x32768x64, .f32⟩
  | .hbm, ⟨28, _⟩ => ⟨S4x512x8192, .bf16⟩
  | .hbm, ⟨29, _⟩ => ⟨S8x32768x64, .bf16⟩
  | .hbm, ⟨30, _⟩ => ⟨S8x32768x64, .bf16⟩
  | .hbm, ⟨31, _⟩ => ⟨S32768x3072, .bf16⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩

abbrev nD : Nat := 1
abbrev τ : Topo := Topo.v7x

variable {F : FTy → Type} [FloatOps F]
-- ==== Proof.Attention.Pages.lean ====
/- The body of the bounded flash kernel as sixteen equal steps, one for each page of 512 keys: the four query blocks a
   grid point works on are four instances of one function. -/
module

public import proofs.«01_k».proof.Proof.Gen.KernelIdeal.Frame
public import Idealize.ShloMosaic.Lib.Pointwise

@[expose] public section

set_option maxRecDepth 16384

noncomputable section

namespace Cert.KernelIdeal.Attention

open Cert.KernelIdeal Cert.KernelIdeal.Gen Idealize.ShloMosaic Idealize.ShloMosaic.TcCoe Idealize.SL.Sem

variable {F : FTy → Type} [FloatOps F] [Named F]

/-- One page: the scores of its keys against the queries, two to their power, and the product with the page's values
    added to the accumulator. -/
def page (q : FVec F S128x1024 .bf16) (acc : FVec F S80x1024 .f32) (k : Vec F S1x512x128 .bf16)
    (v : Vec F S1x1x80x512 .bf16) : FVec F S80x1024 .f32 :=
  addf acc (matmul dot_S80x512_S512x1024_S80x1024_1_0_0_1_n_n none (shapeCast S80x512 v shapeCasts_S1x1x80x512_S80x512)
    (truncf .bf16 (exp2 (matmul dot_S512x128_S128x1024_S512x1024_1_0_0_1_n_n none
      (shapeCast S512x128 k shapeCasts_S1x512x128_S512x128) q (constant S512x1024 .f32 0x00000000#32))) bitsLt_bf16_f32)
    (constant S80x1024 .f32 0x00000000#32))

/-- All sixteen pages, from the zero accumulator. -/
def pages (q : FVec F S128x1024 .bf16) (x1 : Vec F S1x8192x128 .bf16) (x2 : Vec F S1x16x80x512 .bf16) :
    FVec F S80x1024 .f32 :=
  page q (page q (page q (page q (page q (page q (page q (page q
    (page q (page q (page q (page q (page q (page q (page q (page q (broadcast S80x1024 (Scalar.ofBits .f32 0x00000000#32))
    (View.ld x1 r0_1) (View.ld x2 r0_2)) (View.ld x1 r0_3) (View.ld x2 r0_4)) (View.ld x1 r0_5) (View.ld x2 r0_6))
    (View.ld x1 r0_7) (View.ld x2 r0_8)) (View.ld x1 r0_9) (View.ld x2 r0_10)) (View.ld x1 r0_11) (View.ld x2 r0_12))
    (View.ld x1 r0_13) (View.ld x2 r0_14)) (View.ld x1 r0_15) (View.ld x2 r0_16)) (View.ld x1 r0_17) (View.ld x2 r0_18))
    (View.ld x1 r0_19) (View.ld x2 r0_20)) (View.ld x1 r0_21) (View.ld x2 r0_22)) (View.ld x1 r0_23) (View.ld x2 r0_24))
    (View.ld x1 r0_25) (View.ld x2 r0_26)) (View.ld x1 r0_27) (View.ld x2 r0_28)) (View.ld x1 r0_29) (View.ld x2 r0_30))
    (View.ld x1 r0_31) (View.ld x2 r0_32)

/-- The accumulator's value rows over its row 64, written tokens by lanes: each head's 64 rows turned on their side. -/
def finish (acc : FVec F S80x1024 .f32) : FVec F S256x256 .bf16 :=
  have o : FVec F S64x1024 .f32 := divf (extractStridedSlice S64x1024 ![0, 0] acc slices_S80x1024_o0_0_S64x1024)
    (broadcastTo S64x1024 (extractStridedSlice S1x1024 ![64, 0] acc slices_S80x1024_o64_0_S1x1024) broadcasts_S1x1024_S64x1024)
  truncf .bf16 (concatenate S256x256 1
    [⟨S256x64, transpose S256x64 [1, 0] (extractStridedSlice S64x256 ![0, 0] o slices_S64x1024_o0_0_S64x256) transposes_S64x256_p1_0_S256x64⟩,
     ⟨S256x64, transpose S256x64 [1, 0] (extractStridedSlice S64x256 ![0, 256] o slices_S64x1024_o0_256_S64x256) transposes_S64x256_p1_0_S256x64⟩,
     ⟨S256x64, transpose S256x64 [1, 0] (extractStridedSlice S64x256 ![0, 512] o slices_S64x1024_o0_512_S64x256) transposes_S64x256_p1_0_S256x64⟩,
     ⟨S256x64, transpose S256x64 [1, 0] (extractStridedSlice S64x256 ![0, 768] o slices_S64x1024_o0_768_S64x256) transposes_S64x256_p1_0_S256x64⟩]
    concatenates_S256x64_S256x64_S256x64_S256x64_S256x256_d1) bitsLt_bf16_f32

/-- What a query block stores: the value rows divided by the row of the weights' sums, the four heads side by side. -/
abbrev block (q : FVec F S128x1024 .bf16) (x1 : Vec F S1x8192x128 .bf16) (x2 : Vec F S1x16x80x512 .bf16) :
    FVec F S256x256 .bf16 :=
  finish (pages q x1 x2)

set_option maxHeartbeats 1000000 in
/-- The body's four stores are the blocks of its four query blocks. -/
theorem out_eq (x0 : Vec F S1x1x4x128x1024 .bf16) (x1 : Vec F S1x8192x128 .bf16) (x2 : Vec F S1x16x80x512 .bf16) :
    out0_3 x0 x1 x2 = View.canon [
      ⟨r0_39, block (k0_pay53 x0 x1 x2) x1 x2⟩, ⟨r0_37, block (k0_pay52 x0 x1 x2) x1 x2⟩,
      ⟨r0_35, block (k0_pay51 x0 x1 x2) x1 x2⟩, ⟨r0_33, block (k0_pay50 x0 x1 x2) x1 x2⟩] :=
  rfl

end Cert.KernelIdeal.Attention

end
-- ==== Proof.Attention.PagesAt.lean ====
/- The sixteen pages read at an entry, over the extended reals: the accumulator is one sum over the 8192 keys. -/
module

public import proofs.«01_k».proof.Proof.Attention.Pages
public import Idealize.ShloMosaic.Lib.Pipeline.ValueKit

@[expose] public section

set_option maxRecDepth 16384

noncomputable section

namespace Cert.KernelIdeal.Attention

open Cert.KernelIdeal Cert.KernelIdeal.Gen Idealize.ShloMosaic Idealize.ShloMosaic.TcCoe Idealize.SL.Sem

/-- A page at row `r` and query `j`: the accumulator plus the page's sum. -/
theorem page_at (q : FVec Ideal S128x1024 .bf16) (acc : FVec Ideal S80x1024 .f32) (k : Vec Ideal S1x512x128 .bf16)
    (v : Vec Ideal S1x1x80x512 .bf16) (r : Fin 80) (j : Fin 1024) :
    page q acc k v (ix2 r j) = acc (ix2 r j) +
      ∑ i : Fin 512, (v (ix4 0 0 r i) : EReal) * Ideal.exp2 (∑ d : Fin 128, (k (ix3 0 i d) : EReal) * q (ix2 d j)) := by
  pointwise [page]
  rfl

/-- The term of key `i` in the sum at row `r` and query `j`. -/
def term (q : FVec Ideal S128x1024 .bf16) (x1 : FVec Ideal S1x8192x128 .bf16) (x2 : FVec Ideal S1x16x80x512 .bf16)
    (r : Fin 80) (j : Fin 1024) (i : Fin 8192) : EReal :=
  x2 (ix4 0 ⟨i.val / 512, by omega⟩ r ⟨i.val % 512, by omega⟩)
    * Ideal.exp2 (∑ d : Fin 128, x1 (ix3 0 i d) * q (ix2 d j))

/-- The terms of page `c`. -/
def pageSum (q : FVec Ideal S128x1024 .bf16) (x1 : FVec Ideal S1x8192x128 .bf16) (x2 : FVec Ideal S1x16x80x512 .bf16)
    (r : Fin 80) (j : Fin 1024) (c : Fin 16) : EReal :=
  ∑ x : Fin 512, x2 (ix4 0 c r x) * Ideal.exp2 (∑ d : Fin 128, x1 (ix3 0 ⟨512 * c.val + x.val, by omega⟩ d) * q (ix2 d j))

/-- A sum over the keys is the sum over the pages of the pages' sums. -/
theorem sum_term (q : FVec Ideal S128x1024 .bf16) (x1 : FVec Ideal S1x8192x128 .bf16)
    (x2 : FVec Ideal S1x16x80x512 .bf16) (r : Fin 80) (j : Fin 1024) :
    ∑ i : Fin 8192, term q x1 x2 r j i = ∑ c : Fin 16, pageSum q x1 x2 r j c := by
  rw [Fin.sum_univ_tiles 16 512 rfl]
  refine Finset.sum_congr rfl fun c _ => Finset.sum_congr rfl fun x _ => ?_
  have h1 : (⟨(c.val * 512 + x.val) / 512, by omega⟩ : Fin 16) = c := Fin.ext (by show (c.val * 512 + x.val) / 512 = c.val; omega)
  have h2 : (⟨(c.val * 512 + x.val) % 512, by omega⟩ : Fin 512) = x := Fin.ext (by show (c.val * 512 + x.val) % 512 = x.val; omega)
  have h3 : (⟨c.val * 512 + x.val, by omega⟩ : Fin 8192) = ⟨512 * c.val + x.val, by omega⟩ := Fin.ext (by show c.val * 512 + x.val = 512 * c.val + x.val; omega)
  simp only [term, h1, h2, h3]

/-- A sum over sixteen, written out. -/
theorem sum_sixteen (f : Fin 16 → EReal) : ∑ c : Fin 16, f c = f 0 + f 1 + f 2 + f 3 + f 4 + f 5 + f 6 + f 7 + f 8 + f 9
    + f 10 + f 11 + f 12 + f 13 + f 14 + f 15 := by
  simp only [Fin.sum_univ_castSucc, Fin.sum_univ_zero, zero_add]
  rfl

set_option maxHeartbeats 1000000 in
/-- The accumulator after all pages is one sum over the keys. -/
theorem pages_at (q : FVec Ideal S128x1024 .bf16) (x1 : FVec Ideal S1x8192x128 .bf16)
    (x2 : FVec Ideal S1x16x80x512 .bf16) (r : Fin 80) (j : Fin 1024) :
    pages q x1 x2 (ix2 r j) = ∑ i : Fin 8192, term q x1 x2 r j i := by
  rw [sum_term, sum_sixteen]
  unfold pages
  simp only [page_at]
  pointwise
  simp only [pageSum, Fin.coe_ofNat_eq_mod, Nat.reduceMod, Nat.reduceMul, Nat.zero_add]

/-- What a query block stores at row `x` and column `y` (head `y / 64`, feature `y % 64`) is the quotient of two
    accumulator entries. -/
theorem finish_at (acc : FVec Ideal S80x1024 .f32) (x : Fin 256) (y : Fin 256) :
    finish acc (ix2 x y) = Ideal.div (acc (ix2 ⟨y.val % 64, by omega⟩ ⟨y.val / 64 * 256 + x.val, by omega⟩))
      (acc (ix2 64 ⟨y.val / 64 * 256 + x.val, by omega⟩)) := by
  pointwise [finish]
  have key : ∀ (a a' : Fin 64) (b b' : Fin 1024), a.val = a'.val → b.val = b'.val →
      Ideal.div (acc (ix2 ⟨a.val, by omega⟩ b)) (acc (ix2 64 b)) = Ideal.div (acc (ix2 ⟨a'.val, by omega⟩ b')) (acc (ix2 64 b')) :=
    fun a a' b b' ha hb => by rw [Fin.ext ha, Fin.ext hb]
  by_cases h0 : y.val < 64
  · rw [dif_pos h0]
    exact key ⟨y.val, h0⟩ ⟨y.val % 64, by omega⟩ ⟨x.val, by omega⟩ ⟨y.val / 64 * 256 + x.val, by omega⟩
      (by show y.val = y.val % 64; omega) (by show x.val = y.val / 64 * 256 + x.val; omega)
  rw [dif_neg h0]
  by_cases h1 : y.val - 64 < 64
  · rw [dif_pos h1]
    exact key ⟨y.val - 64, h1⟩ ⟨y.val % 64, by omega⟩ ⟨256 + x.val, by omega⟩ ⟨y.val / 64 * 256 + x.val, by omega⟩
      (by show y.val - 64 = y.val % 64; omega) (by show 256 + x.val = y.val / 64 * 256 + x.val; omega)
  rw [dif_neg h1]
  by_cases h2 : y.val - 64 - 64 < 64
  · rw [dif_pos h2]
    exact key ⟨y.val - 64 - 64, h2⟩ ⟨y.val % 64, by omega⟩ ⟨512 + x.val, by omega⟩ ⟨y.val / 64 * 256 + x.val, by omega⟩
      (by show y.val - 64 - 64 = y.val % 64; omega) (by show 512 + x.val = y.val / 64 * 256 + x.val; omega)
  rw [dif_neg h2]
  exact key ⟨y.val - 64 - 64 - 64, by omega⟩ ⟨y.val % 64, by omega⟩ ⟨768 + x.val, by omega⟩
    ⟨y.val / 64 * 256 + x.val, by omega⟩
    (by show y.val - 64 - 64 - 64 = y.val % 64; omega) (by show 768 + x.val = y.val / 64 * 256 + x.val; omega)

end Cert.KernelIdeal.Attention

end
-- ==== Proof.Attention.Block.lean ====
/- What a grid point of the bounded flash kernel leaves in its output block, entry by entry. -/
module

public import proofs.«01_k».proof.Proof.Attention.PagesAt

@[expose] public section

set_option maxRecDepth 16384

noncomputable section

namespace Cert.KernelIdeal.Attention

open Cert.KernelIdeal Cert.KernelIdeal.Gen Idealize.ShloMosaic Idealize.ShloMosaic.TcCoe Idealize.SL.Sem

/-- What the queries are multiplied by: an eighth over the logarithm of two. -/
abbrev scale : EReal := (((1 / 8) * (Real.log 2)⁻¹ : ℝ) : EReal)

/-- The named factor is that number. -/
theorem scale_eq : (Named.named κ "q_scale" 0x3E38AA3B#32 : Ideal .f32) = scale := rfl

/-- Row `r` of the accumulator at query row `x` of the point's block and head `g`: the sum over the keys. -/
def rowSum (x0 : FVec Ideal S1x1x4x128x1024 .bf16) (x1 : FVec Ideal S1x8192x128 .bf16)
    (x2 : FVec Ideal S1x16x80x512 .bf16) (x : Fin 1024) (g : Fin 4) (r : Fin 80) : EReal :=
  ∑ i : Fin 8192, x2 (ix4 0 ⟨i.val / 512, by omega⟩ r ⟨i.val % 512, by omega⟩)
    * Ideal.exp2 (∑ d : Fin 128, x1 (ix3 0 i d)
      * (x0 (ix5 0 0 ⟨x.val / 256, by omega⟩ d ⟨g.val * 256 + x.val % 256, by omega⟩) * scale))

/-- A query block's stored value from that of its queries. -/
theorem block_at (x0 : FVec Ideal S1x1x4x128x1024 .bf16) (x1 : FVec Ideal S1x8192x128 .bf16)
    (x2 : FVec Ideal S1x16x80x512 .bf16) (q : FVec Ideal S128x1024 .bf16) (n : Fin 4)
    (hq : ∀ (d : Fin 128) (j : Fin 1024), q (ix2 d j) = x0 (ix5 0 0 n d j) * scale) (x y : Fin 256) (X : Fin 1024)
    (hX : X.val = n.val * 256 + x.val) :
    block q x1 x2 (ix2 x y) = Ideal.div (rowSum x0 x1 x2 X ⟨y.val / 64, by omega⟩ ⟨y.val % 64, by omega⟩)
      (rowSum x0 x1 x2 X ⟨y.val / 64, by omega⟩ 64) := by
  have h1 : (⟨X.val / 256, by omega⟩ : Fin 4) = n := by apply Fin.ext; show X.val / 256 = n.val; omega
  have h2 : (⟨y.val / 64 * 256 + X.val % 256, by omega⟩ : Fin 1024) = ⟨y.val / 64 * 256 + x.val, by omega⟩ := by
    apply Fin.ext; show y.val / 64 * 256 + X.val % 256 = y.val / 64 * 256 + x.val; omega
  have e : ∀ r : Fin 80, pages q x1 x2 (ix2 r ⟨y.val / 64 * 256 + x.val, by omega⟩)
      = rowSum x0 x1 x2 X ⟨y.val / 64, by omega⟩ r := fun r => by
    rw [pages_at]
    unfold rowSum
    refine Finset.sum_congr rfl fun i _ => ?_
    simp only [term, hq, h1, h2]
  rw [block, finish_at, e, e]

/-- The same at an index of the block given as one function. -/
theorem block_at' (x0 : FVec Ideal S1x1x4x128x1024 .bf16) (x1 : FVec Ideal S1x8192x128 .bf16)
    (x2 : FVec Ideal S1x16x80x512 .bf16) (q : FVec Ideal S128x1024 .bf16) (n : Fin 4)
    (hq : ∀ (d : Fin 128) (j : Fin 1024), q (ix2 d j) = x0 (ix5 0 0 n d j) * scale) (x : S256x256.Idx)
    (X : Fin 1024) (Y : Fin 256) (hX : X.val = n.val * 256 + (x 0).val) (hY : Y.val = (x 1).val) :
    block q x1 x2 x = Ideal.div (rowSum x0 x1 x2 X ⟨Y.val / 64, by omega⟩ ⟨Y.val % 64, by omega⟩)
      (rowSum x0 x1 x2 X ⟨Y.val / 64, by omega⟩ 64) := by
  have hy : (x 1 : Fin 256) = Y := Fin.ext hY.symm
  have e : x = ix2 (x 0) Y := (eq_ix2 x).trans (congrArg (fun b : Fin 256 => ix2 (x 0) b) hy)
  exact (congrArg (block q x1 x2) e).trans (block_at x0 x1 x2 q n hq (x 0) Y X hX)

/-- A grid point's output block from its three input blocks. -/
theorem out_at (x0 : FVec Ideal S1x1x4x128x1024 .bf16) (x1 : FVec Ideal S1x8192x128 .bf16)
    (x2 : FVec Ideal S1x16x80x512 .bf16) (X : Fin 1024) (Y : Fin 256) :
    (out0_3 x0 x1 x2 : Vec Ideal S1024x256 .bf16) (ix2 X Y)
      = Ideal.div (rowSum x0 x1 x2 X ⟨Y.val / 64, by omega⟩ ⟨Y.val % 64, by omega⟩)
        (rowSum x0 x1 x2 X ⟨Y.val / 64, by omega⟩ 64) := by
  rw [out_eq]
  canon_tiles x h
  · exact block_at' x0 x1 x2 _ 3 (fun d j => by pointwise [k0_pay53, k0_pay38]; rw [scale_eq]) x X Y (h0.trans (by simp)) h1
  · exact block_at' x0 x1 x2 _ 2 (fun d j => by pointwise [k0_pay52, k0_pay27]; rw [scale_eq]) x X Y (h0.trans (by simp)) h1
  · exact block_at' x0 x1 x2 _ 1 (fun d j => by pointwise [k0_pay51, k0_pay15]; rw [scale_eq]) x X Y (h0.trans (by simp)) h1
  · exact block_at' x0 x1 x2 _ 0 (fun d j => by pointwise [k0_pay50, k0_pay2]; rw [scale_eq]) x X Y (h0.trans (by simp)) h1

end Cert.KernelIdeal.Attention

end
-- ==== Proof.Attention.Array.lean ====
/- The bounded flash kernel's whole output array from the three arrays its region reads. -/
module

public import proofs.«01_k».proof.Proof.Attention.Block
public import proofs.«01_k».proof.Proof.Gen.KernelIdeal.Value
public import Idealize.ShloMosaic.Lib.Pipeline.ValueKit

@[expose] public section

set_option maxRecDepth 16384

noncomputable section

namespace Cert.KernelIdeal.Attention

open Cert.KernelIdeal Cert.KernelIdeal.Gen Idealize.ShloMosaic Idealize.ShloMosaic.TcCoe Idealize.SL.Sem

variable (m : (ℓ : Loc nD τ sig) → Buf (Elt Ideal) ℓ)

/-- Row `r` of the accumulator of token `R` (over all batch rows) and query head `h`, from the region's arrays. -/
def arrSum (QG : FVec Ideal S4x2x32x128x1024 .bf16) (KE : FVec Ideal S2x32768x128 .bf16)
    (VT : FVec Ideal S4x16x160x512 .bf16) (R : Fin 32768) (h : Fin 8) (r : Fin 80) : EReal :=
  ∑ i : Fin 8192, VT (ix4 ⟨R.val / 8192, by omega⟩ ⟨i.val / 512, by omega⟩ ⟨h.val / 4 * 80 + r.val, by omega⟩ ⟨i.val % 512, by omega⟩)
    * Ideal.exp2 (∑ d : Fin 128, KE (ix3 ⟨h.val / 4, by omega⟩ ⟨R.val / 8192 * 8192 + i.val, by omega⟩ d)
      * (QG (ix5 ⟨R.val / 8192, by omega⟩ ⟨h.val / 4, by omega⟩ ⟨R.val % 8192 / 256, by omega⟩ d ⟨h.val % 4 * 256 + R.val % 256, by omega⟩) * scale))

/-- The output array: accumulator row `e` of the head over its row 64. -/
def arr (QG : FVec Ideal S4x2x32x128x1024 .bf16) (KE : FVec Ideal S2x32768x128 .bf16)
    (VT : FVec Ideal S4x16x160x512 .bf16) (R : Fin 32768) (C : Fin 512) : EReal :=
  Ideal.div (arrSum QG KE VT R ⟨C.val / 64, by omega⟩ ⟨C.val % 64, by omega⟩) (arrSum QG KE VT R ⟨C.val / 64, by omega⟩ 64)

/-- The block every window holds at a grid point. -/
theorem idx : ∀ t : Fin cfg0.N,
    win0_0.index t = ![t.val / 16, t.val / 8 % 2, t.val % 8, 0, 0] ∧ win0_1.index t = ![t.val / 8 % 2, t.val / 16, 0] ∧
    win0_2.index t = ![t.val / 16, 0, t.val / 8 % 2, 0] ∧ win0_3.index t = ![t.val / 16 * 8 + t.val % 8, t.val / 8 % 2] ∧ t.val < 64 :=
  (by decide +kernel : ∀ t : Fin grid0.N, _)

/-- The queries' block at a point, read in the queries' array. -/
theorem queries_at (A : FVec Ideal S4x2x32x128x1024 .bf16) (t : Fin cfg0.N) (n : Fin 4) (d : Fin 128) (j : Fin 1024)
    (a : Fin 4) (b : Fin 2) (k : Fin 32)
    (ha : a.val = t.val / 16) (hb : b.val = t.val / 8 % 2) (hk : k.val = t.val % 8 * 4 + n.val) :
    (((cfg0.win 0).blk t).view.read (Elt Ideal) A : FVec Ideal S1x1x4x128x1024 .bf16) (ix5 0 0 n d j) = A (ix5 a b k d j) := by
  blk_ext [(idx t).1]

/-- The keys' block at a point, read in the keys' array. -/
theorem keys_at (A : FVec Ideal S2x32768x128 .bf16) (t : Fin cfg0.N) (i : Fin 8192) (d : Fin 128) (b : Fin 2) (k : Fin 32768)
    (hb : b.val = t.val / 8 % 2) (hk : k.val = t.val / 16 * 8192 + i.val) :
    (((cfg0.win 1).blk t).view.read (Elt Ideal) A : FVec Ideal S1x8192x128 .bf16) (ix3 0 i d) = A (ix3 b k d) := by
  blk_ext [(idx t).2.1]

/-- The values' block at a point, read in the values' array. -/
theorem values_at (A : FVec Ideal S4x16x160x512 .bf16) (t : Fin cfg0.N) (p : Fin 16) (r : Fin 80) (l : Fin 512) (a : Fin 4) (k : Fin 160)
    (ha : a.val = t.val / 16) (hk : k.val = t.val / 8 % 2 * 80 + r.val) :
    (((cfg0.win 2).blk t).view.read (Elt Ideal) A : FVec Ideal S1x16x80x512 .bf16) (ix4 0 p r l) = A (ix4 a p k l) := by
  blk_ext [(idx t).2.2.1]

/-- Accumulator rows over a point's blocks are the array's, once the blocks are the arrays' parts. -/
theorem rowSum_of (x0 : FVec Ideal S1x1x4x128x1024 .bf16) (x1 : FVec Ideal S1x8192x128 .bf16)
    (x2 : FVec Ideal S1x16x80x512 .bf16) (QG : FVec Ideal S4x2x32x128x1024 .bf16) (KE : FVec Ideal S2x32768x128 .bf16)
    (VT : FVec Ideal S4x16x160x512 .bf16) (t : ℕ)
    (h0 : ∀ (n : Fin 4) (d : Fin 128) (j : Fin 1024) (a : Fin 4) (b : Fin 2) (k : Fin 32), a.val = t / 16 → b.val = t / 8 % 2 →
      k.val = t % 8 * 4 + n.val → x0 (ix5 0 0 n d j) = QG (ix5 a b k d j))
    (h1 : ∀ (i : Fin 8192) (d : Fin 128) (b : Fin 2) (k : Fin 32768), b.val = t / 8 % 2 → k.val = t / 16 * 8192 + i.val →
      x1 (ix3 0 i d) = KE (ix3 b k d))
    (h2 : ∀ (p : Fin 16) (r : Fin 80) (l : Fin 512) (a : Fin 4) (k : Fin 160), a.val = t / 16 → k.val = t / 8 % 2 * 80 + r.val →
      x2 (ix4 0 p r l) = VT (ix4 a p k l))
    (X : Fin 1024) (g : Fin 4) (r : Fin 80) (R : Fin 32768) (h : Fin 8)
    (hR : R.val = (t / 16 * 8 + t % 8) * 1024 + X.val) (hh : h.val = t / 8 % 2 * 4 + g.val) :
    rowSum x0 x1 x2 X g r = arrSum QG KE VT R h r := by
  have e1 : R.val / 8192 = t / 16 := by omega
  have e2 : R.val % 8192 / 256 = t % 8 * 4 + X.val / 256 := by omega
  have e4 : h.val / 4 = t / 8 % 2 := by omega
  have e3 : (⟨g.val * 256 + X.val % 256, by omega⟩ : Fin 1024) = ⟨h.val % 4 * 256 + R.val % 256, by omega⟩ :=
    Fin.ext (by show g.val * 256 + X.val % 256 = h.val % 4 * 256 + R.val % 256; omega)
  unfold rowSum arrSum
  refine Finset.sum_congr rfl fun i _ => ?_
  rw [e3, h2 _ _ _ ⟨R.val / 8192, by omega⟩ ⟨h.val / 4 * 80 + r.val, by omega⟩ e1 (by show h.val / 4 * 80 + r.val = _; omega)]
  refine congrArg (_ * ·) (congrArg Ideal.exp2 (Finset.sum_congr rfl fun d _ => ?_))
  rw [h1 _ _ ⟨h.val / 4, by omega⟩ ⟨R.val / 8192 * 8192 + i.val, by omega⟩ e4 (by show R.val / 8192 * 8192 + i.val = _; omega),
    h0 _ _ _ ⟨R.val / 8192, by omega⟩ ⟨h.val / 4, by omega⟩ ⟨R.val % 8192 / 256, by omega⟩ e1 e4 e2]

/-- A point's output block is its part of `arr`, whatever arrays its input blocks are parts of. -/
theorem point (QG : FVec Ideal S4x2x32x128x1024 .bf16) (KE : FVec Ideal S2x32768x128 .bf16) (VT : FVec Ideal S4x16x160x512 .bf16)
    (t : Fin cfg0.N) (X : Fin 1024) (Y : Fin 256) (R : Fin 32768) (C : Fin 512)
    (hR : R.val = (t.val / 16 * 8 + t.val % 8) * 1024 + X.val) (hC : C.val = t.val / 8 % 2 * 256 + Y.val) :
    (out0_3 (((cfg0.win 0).blk t).view.read (Elt Ideal) QG) (((cfg0.win 1).blk t).view.read (Elt Ideal) KE)
      (((cfg0.win 2).blk t).view.read (Elt Ideal) VT) : Vec Ideal S1024x256 .bf16) (ix2 X Y) = arr QG KE VT R C := by
  rw [out_at]
  have e : ∀ r : Fin 80, rowSum (((cfg0.win 0).blk t).view.read (Elt Ideal) QG) (((cfg0.win 1).blk t).view.read (Elt Ideal) KE)
      (((cfg0.win 2).blk t).view.read (Elt Ideal) VT) X ⟨Y.val / 64, by omega⟩ r = arrSum QG KE VT R ⟨C.val / 64, by omega⟩ r := fun r =>
    rowSum_of _ _ _ QG KE VT t.val (fun n d j a b k ha hb hk => queries_at QG t n d j a b k ha hb hk)
      (fun i d b k hb hk => keys_at KE t i d b k hb hk) (fun p r l a k ha hk => values_at VT t p r l a k ha hk)
      X _ r R _ hR (by show C.val / 64 = t.val / 8 % 2 * 4 + Y.val / 64; omega)
  have h1 : (⟨Y.val % 64, by omega⟩ : Fin 80) = ⟨C.val % 64, by omega⟩ :=
    Fin.ext (by show Y.val % 64 = C.val % 64; omega)
  rw [e, e, h1]
  rfl

/-- The whole output array after the run. -/
theorem final (c : Dev nD) : (dats m 0 c).arrAt 3 cfg0.N
    = fun i : S32768x512.Idx => arr (V m c (Pipeline.arrRef spec0 0)) (V m c (Pipeline.arrRef spec0 1))
        (V m c (Pipeline.arrRef spec0 2)) (i 0) (i 1) := by
  refine (dats m 0 c).arrAt_eq_of_covers 3 _ (by decide +kernel) fun t hf y => ?_
  blk_simp
  rw [after0_3]
  have E0 : ((win0_3.blk t).view.emb y 0 : ℕ) = (t.val / 16 * 8 + t.val % 8) * 1024 + (y 0 : ℕ) := by
    blk_simp [(idx t).2.2.2.1]
  have E1 : ((win0_3.blk t).view.emb y 1 : ℕ) = t.val / 8 % 2 * 256 + (y 1 : ℕ) := by
    blk_simp [(idx t).2.2.2.1]
  exact (congrArg (out0_3 (iblk m c 0 t) (iblk m c 1 t) (iblk m c 2 t)) (eq_ix2 y)).trans
    (point (V m c (Pipeline.arrRef spec0 0)) (V m c (Pipeline.arrRef spec0 1)) (V m c (Pipeline.arrRef spec0 2)) t (y 0) (y 1)
      ((win0_3.blk t).view.emb y 0) ((win0_3.blk t).view.emb y 1) E0 E1)

end Cert.KernelIdeal.Attention

end
-- ==== Proof.Attention.Operands.lean ====
/- The three arrays the bounded flash kernel's region reads, entry by entry, from the arguments. -/
module

public import proofs.«01_k».proof.Proof.Gen.KernelIdeal.Frame
public import Idealize.ShloMosaic.Lib.Pointwise
public import Idealize.ShloMosaic.Lib.Claim

@[expose] public section

set_option maxRecDepth 16384

noncomputable section

namespace Cert.KernelIdeal.Attention

open Cert.KernelIdeal Cert.KernelIdeal.Gen Idealize.ShloMosaic Idealize.ShloMosaic.TcCoe Idealize.SL.Sem

variable (m : (ℓ : Loc nD τ sig) → Buf (Elt Ideal) ℓ)

/-- A number below 64 is zero exactly when its word is. -/
theorem word_eq_zero : ∀ n : Fin 64, IntOp.cmpi .eq (BitVec.ofNat 32 n.val) 0#32 = if n.val = 0 then 1#1 else 0#1 := by
  decide +kernel

/-- The word of a number below 1024 is not negative. -/
theorem word_nonneg : ∀ n : Fin 1024, IntOp.cmpi .sge (BitVec.ofNat 32 n.val) 0#32 = 1#1 := by decide +kernel

/-- A true bit read as a number is one, a false bit zero. -/
theorem bit_value (p : Prop) [Decidable p] :
    (FloatOps.uitofp .bf16 (if p then 1#1 else 0#1) : Ideal .bf16) = if p then (1 : EReal) else (0 : EReal) := by
  split <;> simp [FloatOps.uitofp]

/-- The largest magnitude of a gain's entries, as the host reduces it. -/
def gainMax (g : FVec Ideal S64 .f32) : EReal :=
  Finset.fold max (Ideal.ofBits .f32 4286578688#32) (fun k : Fin 64 => (FloatOps.absf (g (ix1 k)) : Ideal .f32)) Finset.univ

/-- The bound on a query's product with a key. -/
def bound (qg kg : FVec Ideal S64 .f32) : EReal :=
  Ideal.ofBits .f32 1115852636#32 * gainMax qg * gainMax kg

/-- The packed keys: a key's 64 entries, a one, zeros. -/
theorem keys_read (c : Dev nD) (j : Fin 2) (i : Fin 32768) (d : Fin 128) :
    (V m c main_v52 : FVec Ideal S2x32768x128 .bf16) (ix3 j i d) =
      if h : d.val < 64 then
        ((m (c, Proc.tc.devRef main_arg1) : FVec Ideal S4x8192x2x64 .f32) (ix4 ⟨i.val / 8192, by omega⟩ ⟨i.val % 8192, by omega⟩ j ⟨d.val, h⟩) : EReal)
      else if d.val - 64 = 0 then (1 : EReal) else (0 : EReal) := by
  simp only [V, hostOps0, hostOps0_1, hostOps0_2, List.flatten_cons, List.flatten_nil, List.cons_append, List.nil_append, List.append_nil]
  entry_read
  pointwise
  split
  · rfl
  · rw [word_eq_zero ⟨d.val - 64, by omega⟩, bit_value]

/-- The packed values: per key-value head the value's 64 entries, a one, zeros. -/
theorem values_read (c : Dev nD) (b : Fin 4) (p : Fin 16) (r : Fin 160) (l : Fin 512) :
    (V m c main_v43 : FVec Ideal S4x16x160x512 .bf16) (ix4 b p r l) =
      if h : r.val % 80 < 64 then
        ((m (c, Proc.tc.devRef main_arg2) : FVec Ideal S4x8192x2x64 .f32) (ix4 b ⟨p.val * 512 + l.val, by omega⟩ ⟨r.val / 80, by omega⟩ ⟨r.val % 80, h⟩) : EReal)
      else if r.val % 80 - 64 = 0 then (1 : EReal) else (0 : EReal) := by
  simp only [V, hostOps0, hostOps0_1, hostOps0_2, List.flatten_cons, List.flatten_nil, List.cons_append, List.nil_append, List.append_nil]
  entry_read
  pointwise
  split
  · rfl
  · rw [word_eq_zero ⟨r.val % 80 - 64, by omega⟩, word_nonneg ⟨l.val, by omega⟩, ← bit_value]
    split <;> rfl

/-- The packed queries: a query's 64 entries, minus the bound, zeros. -/
theorem queries_read (c : Dev nD) (b : Fin 4) (j : Fin 2) (n : Fin 32) (d : Fin 128) (l : Fin 1024) :
    (V m c main_v37 : FVec Ideal S4x2x32x128x1024 .bf16) (ix5 b j n d l) =
      if h : d.val < 64 then
        (m (c, Proc.tc.devRef main_arg0) : FVec Ideal S4x8192x8x64 .f32)
          (ix4 b ⟨n.val * 256 + l.val % 256, by omega⟩ ⟨j.val * 4 + l.val / 256, by omega⟩ ⟨d.val, h⟩)
      else if d.val - 64 = 0 then
        -(bound (m (c, Proc.tc.devRef main_arg3)) (m (c, Proc.tc.devRef main_arg4)))
      else (0 : EReal) := by
  simp only [V, hostOps0, hostOps0_1, hostOps0_2, List.flatten_cons, List.flatten_nil, List.cons_append, List.nil_append, List.append_nil]
  entry_read
  simp only [StableHlo.TRef.ofBuf_toBuf]
  simp only [StableHlo.TRef.toBuf, StableHlo.TRef.ofBuf, cast_eq]
  pointwise
  split
  · rfl
  · rw [word_eq_zero ⟨d.val - 64, by omega⟩, word_nonneg l]
    split <;> rfl

end Cert.KernelIdeal.Attention

end
-- ==== Proof.Attention.Reference.lean ====
/- The reference attention at an element: the values weighted by the softmax of the scaled scores. -/
module

public import proofs.«01_k».proof.Proof.Gen.ReferenceIdeal.Read
public import Idealize.ShloMosaic.Lib.Pointwise
public import Idealize.ShloMosaic.Lib.Pipeline.ValueKit

@[expose] public section

set_option maxRecDepth 16384
noncomputable section

namespace Cert.ReferenceIdeal.Attention

open Cert.ReferenceIdeal Cert.ReferenceIdeal.Read Idealize.ShloMosaic Idealize.ShloMosaic.TcCoe Idealize.SL.Sem

/-- A query's scaled product with a key. -/
def score (Q : FVec Ideal S4x8192x8x64 .f32) (K : FVec Ideal S4x8192x2x64 .f32) (b : Fin 4) (j : Fin 2) (g : Fin 4)
    (s k : Fin 8192) : EReal :=
  (∑ d : Fin 64, K (ix4 b k j d) * Q (ix4 b s ⟨j.val * 4 + g.val, by omega⟩ d)) * Ideal.ofBits .f32 0x3E000000#32

/-- The reference's scaled scores are `score`. -/
theorem score_at (Q : FVec Ideal S4x8192x8x64 .f32) (K : FVec Ideal S4x8192x2x64 .f32) (b : Fin 4) (j : Fin 2) (g : Fin 4)
    (s k : Fin 8192) : val_main_v4 (F := Ideal) Q K (ix5 b j g s k) = score Q K b j g s k := by
  unfold score
  rw [val_main_v4_apply, val_main_v2_apply, val_main_v1_apply, val_main_v3_apply, val_main_cst_apply]
  refine congrArg (· * Ideal.ofBits .f32 0x3E000000#32) (Finset.sum_congr rfl fun d _ => ?_)
  rw [val_main_v0_apply]
  refine congrArg₂ (· * ·) (congrArg K ?_) (congrArg Q ?_)
  all_goals blk_ext []

/-- A query's largest score. -/
def top (Q : FVec Ideal S4x8192x8x64 .f32) (K : FVec Ideal S4x8192x2x64 .f32) (b : Fin 4) (j : Fin 2) (g : Fin 4)
    (s : Fin 8192) : EReal :=
  max (Ideal.ofBits .f32 0xFF800000#32) (Finset.univ.fold max (Ideal.ofBits .f32 0xFF800000#32) fun k => score Q K b j g s k)

/-- The reference's row maximum is `top`. -/
theorem top_at (Q : FVec Ideal S4x8192x8x64 .f32) (K : FVec Ideal S4x8192x2x64 .f32) (b : Fin 4) (j : Fin 2) (g : Fin 4)
    (s : Fin 8192) : val_main_v7 (F := Ideal) Q K (ix4 b j g s) = top Q K b j g s := by
  have e : val_main_v5 (F := Ideal) Q K (ix4 b j g s)
      = Finset.univ.fold max (Ideal.ofBits .f32 0xFF800000#32) fun k => score Q K b j g s k := by
    unfold val_main_v5
    have h : (fun k => score Q K b j g s k) = fun k : Fin 8192 => (val_main_v4 (F := Ideal) Q K : FVec Ideal S4x2x4x8192x8192 .f32) (ix5 b j g s k) :=
      funext fun k => (score_at Q K b j g s k).symm
    rw [h]
    generalize val_main_v4 (F := Ideal) Q K = y
    pointwise [val_main_cst_0]
  rw [val_main_v7_apply, val_main_v6_apply, val_main_cst_1_apply, e]
  rfl

/-- A key's weight for a query before it is divided. -/
def weight (Q : FVec Ideal S4x8192x8x64 .f32) (K : FVec Ideal S4x8192x2x64 .f32) (b : Fin 4) (j : Fin 2) (g : Fin 4)
    (s k : Fin 8192) : EReal :=
  Ideal.exp (score Q K b j g s k - top Q K b j g s)

/-- The reference's exponentials are `weight`. -/
theorem weight_at (Q : FVec Ideal S4x8192x8x64 .f32) (K : FVec Ideal S4x8192x2x64 .f32) (b : Fin 4) (j : Fin 2) (g : Fin 4)
    (s k : Fin 8192) : val_main_v11 (F := Ideal) Q K (ix5 b j g s k) = weight Q K b j g s k := by
  rw [val_main_v11_apply, val_main_v10_apply, score_at, val_main_v9_apply, val_main_v8_apply]
  have e : idx_main_v8 (idx_main_v9 (ix5 b j g s k)) = ix4 b j g s := by blk_ext []
  rw [e, top_at]
  rfl

/-- The reference's result: the values weighted by the softmax of the scores. -/
def attended (Q : FVec Ideal S4x8192x8x64 .f32) (K W : FVec Ideal S4x8192x2x64 .f32) (R : Fin 32768) (C : Fin 512) : EReal :=
  ∑ k : Fin 8192, W (ix4 ⟨R.val / 8192, by omega⟩ k ⟨C.val / 256, by omega⟩ ⟨C.val % 64, by omega⟩)
    * Ideal.div (weight Q K ⟨R.val / 8192, by omega⟩ ⟨C.val / 256, by omega⟩ ⟨C.val / 64 % 4, by omega⟩ ⟨R.val % 8192, by omega⟩ k)
      (0 + ∑ l : Fin 8192, weight Q K ⟨R.val / 8192, by omega⟩ ⟨C.val / 256, by omega⟩ ⟨C.val / 64 % 4, by omega⟩ ⟨R.val % 8192, by omega⟩ l)

/-- The reference's result, flattened, is `attended`. -/
theorem ref_at (Q : FVec Ideal S4x8192x8x64 .f32) (K W : FVec Ideal S4x8192x2x64 .f32) (R : Fin 32768) (C : Fin 512) :
    val_main_v19 (F := Ideal) Q K W (ix2 R C) = attended Q K W R C := by
  rw [val_main_v19_apply, val_main_v18_apply, val_main_v17_apply, val_main_v16_apply]
  unfold attended
  refine Finset.sum_congr rfl fun k _ => ?_
  have e1 : lidx_main_v16 (idx_main_v17 (idx_main_v18 (ix2 R C))) k
      = ix4 ⟨R.val / 8192, by omega⟩ k ⟨C.val / 256, by omega⟩ ⟨C.val % 64, by omega⟩ := by blk_ext []
  have e2 : ridx_main_v16 (idx_main_v17 (idx_main_v18 (ix2 R C))) k
      = ix5 ⟨R.val / 8192, by omega⟩ ⟨C.val / 256, by omega⟩ ⟨C.val / 64 % 4, by omega⟩ ⟨R.val % 8192, by omega⟩ k := by blk_ext []
  rw [e1, e2, val_main_v15_apply, weight_at, val_main_v14_apply, val_main_v13_apply, val_main_v12_apply]
  refine congrArg (_ * Ideal.div _ ·) (congrArg₂ (· + ·) ?_ (Finset.sum_congr rfl fun l _ => ?_))
  · rw [val_main_cst_2_apply]
    simp [Ideal.ofBits, Ideal.ieee]
  · have e3 : idx_main_v12 (idx_main_v13 (idx_main_v14 (ix5 ⟨R.val / 8192, by omega⟩ ⟨C.val / 256, by omega⟩ ⟨C.val / 64 % 4, by omega⟩ ⟨R.val % 8192, by omega⟩ k))) l
        = ix5 ⟨R.val / 8192, by omega⟩ ⟨C.val / 256, by omega⟩ ⟨C.val / 64 % 4, by omega⟩ ⟨R.val % 8192, by omega⟩ l := by blk_ext []
    rw [e3, weight_at]
end Cert.ReferenceIdeal.Attention
end
-- ==== Proof.Attention.Softmax.lean ====
/- A softmax's weighted sum of arbitrary values does not depend on a common positive factor of its weights. -/
module

public import Idealize.ShloMosaic.PureOps.Ideal

@[expose] public section

noncomputable section

namespace Cert.Softmax

open Idealize.ShloMosaic

/-- A nonnegative real factor distributes over a finite sum of extended reals. -/
theorem sum_mul_coe {ι : Type} (s : Finset ι) (f : ι → EReal) (a : ℝ) (ha : 0 ≤ a) :
    (∑ i ∈ s, f i) * (a : EReal) = ∑ i ∈ s, f i * (a : EReal) := by
  classical
  induction s using Finset.induction_on with
  | empty => simp
  | insert i s hi ih =>
    rw [Finset.sum_insert hi, Finset.sum_insert hi,
      EReal.right_distrib_of_nonneg_of_ne_top (by exact_mod_cast ha) (EReal.coe_ne_top a), ih]

/-- A sum of reals in the extended reals is the real sum. -/
theorem sum_coe {ι : Type} (s : Finset ι) (f : ι → ℝ) : ∑ i ∈ s, (f i : EReal) = ((∑ i ∈ s, f i : ℝ) : EReal) := by
  classical
  induction s using Finset.induction_on with
  | empty => simp
  | insert i s hi ih => rw [Finset.sum_insert hi, Finset.sum_insert hi, ih, EReal.coe_add]

/-- The maximum of finitely many reals, one at least, is a real. -/
theorem fold_max_real {ι : Type} (s : Finset ι) (hs : s.Nonempty) (f : ι → EReal) (hf : ∀ i, ∃ r : ℝ, f i = r) :
    ∃ r : ℝ, s.fold max ⊥ f = (r : EReal) := by
  classical
  induction hs using Finset.Nonempty.cons_induction with
  | singleton a =>
    obtain ⟨r, hr⟩ := hf a
    exact ⟨r, by simp [hr]⟩
  | cons a s ha hs ih =>
    obtain ⟨r, hr⟩ := hf a
    obtain ⟨r', hr'⟩ := ih
    exact ⟨max r r', by rw [Finset.fold_cons, hr, hr', EReal.coe_strictMono.monotone.map_max]⟩

/-- The weighted sum over weights `p i * c` divided by their sum is the sum over the divided weights `p i`. -/
theorem div_sum {ι : Type} [Fintype ι] [Nonempty ι] (v : ι → EReal) (p : ι → ℝ) (hp : ∀ i, 0 < p i) (c : ℝ) (hc : 0 < c) :
    Ideal.div (∑ i, v i * ((p i * c : ℝ) : EReal)) (∑ i, ((p i * c : ℝ) : EReal))
      = ∑ i, v i * Ideal.div (p i : EReal) (∑ l, (p l : EReal)) := by
  have hP : 0 < ∑ i, p i := Finset.sum_pos (fun i _ => hp i) Finset.univ_nonempty
  have e : ∑ i, v i * ((p i * c : ℝ) : EReal) = (∑ i, v i * (p i : EReal)) * (c : EReal) := by
    rw [sum_mul_coe _ _ c hc.le]
    exact Finset.sum_congr rfl fun i _ => by rw [EReal.coe_mul, mul_assoc]
  rw [e, sum_coe, sum_coe, ← Finset.sum_mul, Ideal.div_coe (mul_pos hP hc).ne', mul_assoc, ← EReal.coe_mul]
  have e2 : c * (1 / ((∑ i, p i) * c)) = 1 / ∑ i, p i := by field_simp
  rw [e2, sum_mul_coe _ _ _ (one_div_nonneg.mpr hP.le)]
  refine Finset.sum_congr rfl fun i _ => ?_
  rw [Ideal.div_coe hP.ne', mul_assoc]

end Cert.Softmax

end
-- ==== Proof.Attention.Equal.lean ====
/- The kernel's output array is the reference's, element by element, once queries, keys and gains are real. -/
module

public import proofs.«01_k».proof.Proof.Attention.Array
public import proofs.«01_k».proof.Proof.Attention.Operands
public import proofs.«01_k».proof.Proof.Attention.Reference
public import proofs.«01_k».proof.Proof.Attention.Softmax

@[expose] public section

set_option maxRecDepth 16384

noncomputable section

namespace Cert.Attention

open Idealize.ShloMosaic Cert.KernelIdeal.Attention Cert.ReferenceIdeal.Attention Cert.Softmax
open Cert.KernelIdeal (S4x8192x8x64 S4x8192x2x64 S64 S4x2x32x128x1024 S2x32768x128 S4x16x160x512)

/-- The bits of minus infinity denote it. -/
theorem bits_bot : Ideal.ofBits .f32 0xFF800000#32 = ⊥ := by simp [Ideal.ofBits, Ideal.ieee]

/-- The bits of an eighth denote it. -/
theorem bits_eighth : Ideal.ofBits .f32 0x3E000000#32 = ((1 / 8 : ℝ) : EReal) := by
  simp [Ideal.ofBits, Ideal.ieee, -EReal.coe_mul]; norm_num

/-- The bound's constant is a real. -/
theorem bits_factor : ∃ r : ℝ, Ideal.ofBits .f32 1115852636#32 = (r : EReal) := by
  simp [Ideal.ofBits, Ideal.ieee, -EReal.coe_mul]

/-- A gain's largest magnitude is a real. -/
theorem gainMax_real (g : FVec Ideal S64 .f32) (hg : ∀ i, ∃ r : ℝ, g i = (r : EReal)) : ∃ r : ℝ, gainMax g = (r : EReal) := by
  unfold gainMax
  rw [show Ideal.ofBits .f32 4286578688#32 = ⊥ from bits_bot]
  refine fold_max_real _ Finset.univ_nonempty _ fun i => ?_
  obtain ⟨r, hr⟩ := hg (ix1 i)
  rw [hr]
  exact ⟨|r|, rfl⟩

/-- The bound is a real. -/
theorem bound_real (qg kg : FVec Ideal S64 .f32) (hq : ∀ i, ∃ r : ℝ, qg i = (r : EReal)) (hk : ∀ i, ∃ r : ℝ, kg i = (r : EReal)) :
    ∃ r : ℝ, bound qg kg = (r : EReal) := by
  obtain ⟨a, ha⟩ := gainMax_real qg hq
  obtain ⟨b, hb⟩ := gainMax_real kg hk
  obtain ⟨f, hf⟩ := bits_factor
  exact ⟨f * a * b, by unfold bound; rw [ha, hb, hf, EReal.coe_mul, EReal.coe_mul]⟩

/-- A 128-lane product of a packed key and a packed query is the 64-lane product less the bound's term. -/
theorem packed_dot (k q : Fin 64 → ℝ) (B c : ℝ) (KE QG : Fin 128 → EReal)
    (hk : ∀ d : Fin 128, KE d = if h : d.val < 64 then ((k ⟨d.val, h⟩ : ℝ) : EReal) else if d.val - 64 = 0 then (1 : EReal) else 0)
    (hq : ∀ d : Fin 128, QG d = if h : d.val < 64 then ((q ⟨d.val, h⟩ : ℝ) : EReal) else if d.val - 64 = 0 then -(B : EReal) else 0) :
    ∑ d, KE d * (QG d * (c : EReal)) = (((∑ d, k d * q d) * c - B * c : ℝ) : EReal) := by
  have e : ∀ d : Fin 128, KE d * (QG d * (c : EReal))
      = ((if h : d.val < 64 then k ⟨d.val, h⟩ * (q ⟨d.val, h⟩ * c) else if d.val - 64 = 0 then -B * c else 0 : ℝ) : EReal) := fun d => by
    rw [hk, hq]
    split
    · rw [EReal.coe_mul, EReal.coe_mul]
    · split
      · rw [one_mul, EReal.coe_mul, EReal.coe_neg]
      · simp
  rw [Finset.sum_congr rfl fun d _ => e d, sum_coe]
  refine congrArg _ ?_
  rw [Fin.sum_univ_add (a := 64) (b := 64)]
  have h1 : ∀ d : Fin 64, (if h : (Fin.castAdd 64 d).val < 64 then k ⟨(Fin.castAdd 64 d).val, h⟩ * (q ⟨(Fin.castAdd 64 d).val, h⟩ * c)
      else if (Fin.castAdd 64 d).val - 64 = 0 then -B * c else 0 : ℝ) = k d * q d * c := fun d => by
    rw [dif_pos (show (Fin.castAdd 64 d).val < 64 from d.isLt)]
    exact (mul_assoc _ _ _).symm
  have h2 : ∀ d : Fin 64, (if h : (Fin.natAdd 64 d).val < 64 then k ⟨(Fin.natAdd 64 d).val, h⟩ * (q ⟨(Fin.natAdd 64 d).val, h⟩ * c)
      else if (Fin.natAdd 64 d).val - 64 = 0 then -B * c else 0 : ℝ) = if d = 0 then -B * c else 0 := fun d => by
    rw [dif_neg (show ¬ (Fin.natAdd 64 d).val < 64 by simp)]
    refine if_congr ?_ rfl rfl
    rw [Fin.ext_iff]
    simp
  rw [Finset.sum_congr rfl fun d _ => h1 d, Finset.sum_congr rfl fun d _ => h2 d, ← Finset.sum_mul]
  simp
  ring

end Cert.Attention

end
-- ==== Proof.Attention.Value.lean ====
/- The kernel's output array is the reference's attention, element by element, once queries, keys and gains are real. -/
module

public import proofs.«01_k».proof.Proof.Attention.Equal

@[expose] public section

set_option maxRecDepth 16384

noncomputable section

namespace Cert.Attention

open Idealize.ShloMosaic Cert.KernelIdeal.Attention Cert.ReferenceIdeal.Attention Cert.Softmax
open Cert.KernelIdeal (S4x8192x8x64 S4x8192x2x64 S64 S4x2x32x128x1024 S2x32768x128 S4x16x160x512)

/-- `QG` is the packed queries: a query's 64 entries, less a bound `B`, zeros. -/
def QueriesPacked (Q : FVec Ideal S4x8192x8x64 .f32) (B : EReal) (QG : FVec Ideal S4x2x32x128x1024 .bf16) : Prop :=
  ∀ b j n d l, QG (ix5 b j n d l) = if h : d.val < 64 then
      Q (ix4 b ⟨n.val * 256 + l.val % 256, by omega⟩ ⟨j.val * 4 + l.val / 256, by omega⟩ ⟨d.val, h⟩)
    else if d.val - 64 = 0 then -B else (0 : EReal)

/-- `KE` is the packed keys: a key's 64 entries, a one, zeros. -/
def KeysPacked (K : FVec Ideal S4x8192x2x64 .f32) (KE : FVec Ideal S2x32768x128 .bf16) : Prop :=
  ∀ j i d, KE (ix3 j i d) = if h : d.val < 64 then
      K (ix4 ⟨i.val / 8192, by omega⟩ ⟨i.val % 8192, by omega⟩ j ⟨d.val, h⟩)
    else if d.val - 64 = 0 then (1 : EReal) else (0 : EReal)

/-- `VT` is the packed values: per key head a value's 64 entries, a one, zeros, in pages of 512 keys. -/
def ValuesPacked (W : FVec Ideal S4x8192x2x64 .f32) (VT : FVec Ideal S4x16x160x512 .bf16) : Prop :=
  ∀ b p r l, VT (ix4 b p r l) = if h : r.val % 80 < 64 then
      W (ix4 b ⟨p.val * 512 + l.val, by omega⟩ ⟨r.val / 80, by omega⟩ ⟨r.val % 80, h⟩)
    else if r.val % 80 - 64 = 0 then (1 : EReal) else (0 : EReal)

/-- Two to the power of a score, scaled to base two and lessened by a bound, is the exponential of the score less
    any `M`, times a factor that the score does not enter. -/
theorem exp2_eq (s M B : ℝ) :
    Ideal.exp2 ((s * ((1 / 8) * (Real.log 2)⁻¹) - B * ((1 / 8) * (Real.log 2)⁻¹) : ℝ) : EReal)
      = ((Real.exp (s * (1 / 8) - M) * Real.exp (M - B * (1 / 8)) : ℝ) : EReal) := by
  have h2 : Real.log 2 ≠ 0 := (Real.log_pos (by norm_num)).ne'
  rw [Ideal.exp2_coe, ← Real.exp_add]
  refine congrArg _ ?_
  rw [Real.rpow_eq_pow, Real.rpow_def_of_pos (by norm_num : (0 : ℝ) < 2)]
  refine congrArg _ ?_
  field_simp
  ring

section

variable (Q : FVec Ideal S4x8192x8x64 .f32) (K W : FVec Ideal S4x8192x2x64 .f32) (q : S4x8192x8x64.Idx → ℝ) (k : S4x8192x2x64.Idx → ℝ)
  (hQ : ∀ i, Q i = (q i : EReal)) (hK : ∀ i, K i = (k i : EReal))

/-- A query's real product with a key. -/
def dot (q : S4x8192x8x64.Idx → ℝ) (k : S4x8192x2x64.Idx → ℝ) (b : Fin 4) (j : Fin 2) (g : Fin 4) (s i : Fin 8192) : ℝ :=
  ∑ d : Fin 64, k (ix4 b i j d) * q (ix4 b s ⟨j.val * 4 + g.val, by omega⟩ d)

include hQ hK

/-- The reference's scores are the real products over eight. -/
theorem score_real (b : Fin 4) (j : Fin 2) (g : Fin 4) (s i : Fin 8192) :
    score Q K b j g s i = ((dot q k b j g s i * (1 / 8) : ℝ) : EReal) := by
  unfold score dot
  rw [bits_eighth, EReal.coe_mul, ← sum_coe]
  refine congrArg (· * _) (Finset.sum_congr rfl fun d _ => ?_)
  rw [hQ, hK, EReal.coe_mul]

/-- The reference's largest score is a real. -/
theorem top_real (b : Fin 4) (j : Fin 2) (g : Fin 4) (s : Fin 8192) : ∃ M : ℝ, top Q K b j g s = (M : EReal) := by
  unfold top
  rw [bits_bot, max_eq_right bot_le]
  exact fold_max_real _ Finset.univ_nonempty _ fun i => ⟨_, score_real Q K q k hQ hK b j g s i⟩

/-- The reference's weight is an exponential of reals. -/
theorem weight_real (b : Fin 4) (j : Fin 2) (g : Fin 4) (s : Fin 8192) (M : ℝ) (hM : top Q K b j g s = (M : EReal)) (i : Fin 8192) :
    weight Q K b j g s i = ((Real.exp (dot q k b j g s i * (1 / 8) - M) : ℝ) : EReal) := by
  unfold weight
  rw [score_real Q K q k hQ hK, hM, ← EReal.coe_sub, Ideal.exp_coe]

variable (QG : FVec Ideal S4x2x32x128x1024 .bf16) (KE : FVec Ideal S2x32768x128 .bf16) (VT : FVec Ideal S4x16x160x512 .bf16) (B : ℝ)
  (rq : QueriesPacked Q B QG) (rk : KeysPacked K KE) (rv : ValuesPacked W VT)

include rq rk in
/-- The kernel's exponential of a packed product is the reference's weight times a factor common to a query's keys. -/
theorem power_at (R : Fin 32768) (h : Fin 8) (M : ℝ) (i : Fin 8192) :
    Ideal.exp2 (∑ d : Fin 128, KE (ix3 ⟨h.val / 4, by omega⟩ ⟨R.val / 8192 * 8192 + i.val, by omega⟩ d)
      * (QG (ix5 ⟨R.val / 8192, by omega⟩ ⟨h.val / 4, by omega⟩ ⟨R.val % 8192 / 256, by omega⟩ d ⟨h.val % 4 * 256 + R.val % 256, by omega⟩) * scale))
    = ((Real.exp (dot q k ⟨R.val / 8192, by omega⟩ ⟨h.val / 4, by omega⟩ ⟨h.val % 4, by omega⟩ ⟨R.val % 8192, by omega⟩ i * (1 / 8) - M)
        * Real.exp (M - B * (1 / 8)) : ℝ) : EReal) := by
  rw [← exp2_eq]
  refine congrArg Ideal.exp2 (packed_dot
    (fun d => k (ix4 ⟨R.val / 8192, by omega⟩ i ⟨h.val / 4, by omega⟩ d))
    (fun d => q (ix4 ⟨R.val / 8192, by omega⟩ ⟨R.val % 8192, by omega⟩ ⟨h.val / 4 * 4 + h.val % 4, by omega⟩ d)) B _ _ _ (fun d => ?_) (fun d => ?_))
  · rw [rk]
    split
    · rw [hK]
      refine congrArg (fun x => ((k x : ℝ) : EReal)) ?_
      refine congr (congr (congr (congrArg ix4 (Fin.ext ?_)) (Fin.ext ?_)) rfl) rfl
      · show (R.val / 8192 * 8192 + i.val) / 8192 = R.val / 8192
        omega
      · show (R.val / 8192 * 8192 + i.val) % 8192 = i.val
        omega
    · rfl
  · rw [rq]
    split
    · rw [hQ]
      refine congrArg (fun x => ((q x : ℝ) : EReal)) ?_
      refine congr (congr (congrArg (ix4 _) (Fin.ext ?_)) (Fin.ext ?_)) rfl
      · show R.val % 8192 / 256 * 256 + (h.val % 4 * 256 + R.val % 256) % 256 = R.val % 8192
        omega
      · show h.val / 4 * 4 + (h.val % 4 * 256 + R.val % 256) / 256 = h.val / 4 * 4 + h.val % 4
        omega
    · rfl

include rq rk rv in
/-- The kernel's array over packed operands is the reference's attention. -/
theorem arr_eq (R : Fin 32768) (C : Fin 512) : arr QG KE VT R C = attended Q K W R C := by
  obtain ⟨M, hM⟩ := top_real Q K q k hQ hK ⟨R.val / 8192, by omega⟩ ⟨C.val / 256, by omega⟩ ⟨C.val / 64 % 4, by omega⟩ ⟨R.val % 8192, by omega⟩
  have hw := weight_real Q K q k hQ hK _ _ _ _ M hM
  have hp := power_at Q K q k hQ hK QG KE B rq rk R ⟨C.val / 64, by omega⟩ M
  have ej : (⟨C.val / 64 / 4, by omega⟩ : Fin 2) = ⟨C.val / 256, by omega⟩ := Fin.ext (by show C.val / 64 / 4 = C.val / 256; omega)
  have hv : ∀ i : Fin 8192, VT (ix4 ⟨R.val / 8192, by omega⟩ ⟨i.val / 512, by omega⟩ ⟨C.val / 64 / 4 * 80 + C.val % 64, by omega⟩ ⟨i.val % 512, by omega⟩)
      = W (ix4 ⟨R.val / 8192, by omega⟩ i ⟨C.val / 256, by omega⟩ ⟨C.val % 64, by omega⟩) := fun i => by
    rw [rv, dif_pos (show (C.val / 64 / 4 * 80 + C.val % 64) % 80 < 64 by omega)]
    refine congrArg W (congr (congr (congrArg (ix4 _) (Fin.ext ?_)) (Fin.ext ?_)) (Fin.ext ?_))
    · show i.val / 512 * 512 + i.val % 512 = i.val
      omega
    · show (C.val / 64 / 4 * 80 + C.val % 64) / 80 = C.val / 256
      omega
    · show (C.val / 64 / 4 * 80 + C.val % 64) % 80 = C.val % 64
      omega
  have ho : ∀ i : Fin 8192, VT (ix4 ⟨R.val / 8192, by omega⟩ ⟨i.val / 512, by omega⟩ ⟨C.val / 64 / 4 * 80 + (64 : Fin 80).val, by show _ + 64 < _; omega⟩ ⟨i.val % 512, by omega⟩)
      = (1 : EReal) := fun i => by
    rw [rv]
    exact (dif_neg (show ¬ (C.val / 64 / 4 * 80 + 64) % 80 < 64 by omega)).trans
      (if_pos (show (C.val / 64 / 4 * 80 + 64) % 80 - 64 = 0 by omega))
  have hsum : ∀ i, (Real.exp (dot q k ⟨R.val / 8192, by omega⟩ ⟨C.val / 256, by omega⟩ ⟨C.val / 64 % 4, by omega⟩ ⟨R.val % 8192, by omega⟩ i * (1 / 8) - M) : EReal)
      = weight Q K ⟨R.val / 8192, by omega⟩ ⟨C.val / 256, by omega⟩ ⟨C.val / 64 % 4, by omega⟩ ⟨R.val % 8192, by omega⟩ i := fun i => (hw i).symm
  have hp' : ∀ i, _ = ((Real.exp (dot q k ⟨R.val / 8192, by omega⟩ ⟨C.val / 256, by omega⟩ ⟨C.val / 64 % 4, by omega⟩ ⟨R.val % 8192, by omega⟩ i * (1 / 8) - M)
        * Real.exp (M - B * (1 / 8)) : ℝ) : EReal) := fun i => (hp i).trans (by rw [ej])
  have en : arrSum QG KE VT R ⟨C.val / 64, by omega⟩ ⟨C.val % 64, by omega⟩
      = ∑ i, W (ix4 ⟨R.val / 8192, by omega⟩ i ⟨C.val / 256, by omega⟩ ⟨C.val % 64, by omega⟩)
        * ((Real.exp (dot q k ⟨R.val / 8192, by omega⟩ ⟨C.val / 256, by omega⟩ ⟨C.val / 64 % 4, by omega⟩ ⟨R.val % 8192, by omega⟩ i * (1 / 8) - M)
        * Real.exp (M - B * (1 / 8)) : ℝ) : EReal) :=
    Finset.sum_congr rfl fun i _ => congrArg₂ (· * ·) (hv i) (hp' i)
  have ed : arrSum QG KE VT R ⟨C.val / 64, by omega⟩ 64
      = ∑ i, ((Real.exp (dot q k ⟨R.val / 8192, by omega⟩ ⟨C.val / 256, by omega⟩ ⟨C.val / 64 % 4, by omega⟩ ⟨R.val % 8192, by omega⟩ i * (1 / 8) - M)
        * Real.exp (M - B * (1 / 8)) : ℝ) : EReal) :=
    Finset.sum_congr rfl fun i _ => (congrArg₂ (· * ·) (ho i) (hp' i)).trans (one_mul _)
  unfold arr attended
  rw [en, ed, div_sum _ _ (fun i => Real.exp_pos _) _ (Real.exp_pos _), zero_add]
  simp only [hw]

end

end Cert.Attention

end
-- ==== Proof.Attention.Finite.lean ====
/- What the precondition gives: the queries, the keys and both gains are real numbers at every index. -/
module

public import proofs.«01_k».proof.Proof.Gen.Pre_attention_inputs_finite
public import Idealize.ShloMosaic.Lib.Pointwise
public import Idealize.ShloMosaic.Lib.ReduceAll

@[expose] public section

noncomputable section

namespace Cert.Pre_attention_inputs_finite

open Idealize.ShloMosaic Idealize.SL.Sem

/-- An extended real whose magnitude lies below infinity is a real. -/
theorem real_of_abs_lt (x : EReal) (h : Ideal.cmp .olt (FloatOps.absf (F := Ideal) (φ := .f32) x) (Ideal.ofBits .f32 0x7F800000#32) = 1#1) :
    ∃ r : ℝ, x = r := by
  have e : Ideal.ofBits .f32 0x7F800000#32 = ⊤ := by simp [Ideal.ofBits, Ideal.ieee]
  rw [e] at h
  induction x with
  | bot => simp [Ideal.cmp, FloatOps.absf] at h
  | coe r => exact ⟨r, rfl⟩
  | top => simp [Ideal.cmp, FloatOps.absf] at h

/-- A scalar has one index. -/
instance : Subsingleton S_.Idx := ⟨fun _ _ => funext fun a => a.elim0⟩

variable (q : FVec Ideal S4x8192x8x64 .f32) (k v : FVec Ideal S4x8192x2x64 .f32) (qg kg : FVec Ideal S64 .f32)

/-- Under the precondition the queries, the keys and both gains are real at every index. -/
theorem real_of_pre (h : fn (F := Ideal) q k v qg kg = fun _ => 1#1) :
    (∀ i, ∃ r : ℝ, q i = r) ∧ (∀ i, ∃ r : ℝ, k i = r) ∧ (∀ i, ∃ r : ℝ, qg i = r) ∧ (∀ i, ∃ r : ℝ, kg i = r) := by
  have h0 := congrFun h (fun a => a.elim0)
  unfold fn fn_part1 at h0
  obtain ⟨h1, hkg⟩ := IntOp.andi_eq_one.1 h0
  obtain ⟨h2, hqg⟩ := IntOp.andi_eq_one.1 h1
  obtain ⟨hq, hk⟩ := IntOp.andi_eq_one.1 h2
  exact ⟨fun i => real_of_abs_lt _ (Host.reduce_andi_all _ _ _ _ _ hq i), fun i => real_of_abs_lt _ (Host.reduce_andi_all _ _ _ _ _ hk i),
    fun i => real_of_abs_lt _ (Host.reduce_andi_all _ _ _ _ _ hqg i), fun i => real_of_abs_lt _ (Host.reduce_andi_all _ _ _ _ _ hkg i)⟩

end Cert.Pre_attention_inputs_finite

end
-- ==== Proof.Attention.Claims.lean ====
/- The attention's claims: the frames, the named constant, and the equality with the reference. -/
module

public import proofs.«01_k».proof.Defs
public import proofs.«01_k».proof.Proof.Gen.Kernel.Frame
public import proofs.«01_k».proof.Proof.Attention.Value
public import proofs.«01_k».proof.Proof.Attention.Finite
public import Idealize.ShloMosaic.Lib.Claim

@[expose] public section

set_option maxRecDepth 16384

noncomputable section

namespace Cert.Attention

open Idealize.ShloMosaic Idealize.ShloMosaic.TcCoe Idealize.SL.Sem Cert.KernelIdeal.Attention Cert.ReferenceIdeal.Attention

local instance : Cert.Kernel.Facts := Cert.Kernel.Gen.facts
local instance : Cert.KernelIdeal.Facts := Cert.KernelIdeal.Gen.facts
local instance : Cert.ReferenceIdeal.Facts := Cert.ReferenceIdeal.Gen.facts
local instance : Cert.Pre_attention_inputs_finite.Facts := Cert.Pre_attention_inputs_finite.Gen.facts

/-- The kernel runs, leaves its arguments and ends quiescent. -/
theorem frame_kernel : Cert.quiescent_Kernel := fun m ρ _ => Cert.Kernel.Gen.frame m ρ

/-- So does its idealization. -/
theorem frame_ideal : Cert.quiescent_KernelIdeal := fun m ρ _ => Cert.KernelIdeal.Gen.frame m ρ

/-- So does the reference: it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The named scale's value is the table's. -/
theorem preserves : Cert.preserves_Kernel_KernelIdeal :=
  IdealRules.named_const.statement Cert.KernelIdeal.κ "q_scale" .f32 0x3E38AA3B#32 (((1 / 8) * (Real.log 2)⁻¹ : ℝ) : EReal) rfl

/-- The kernel's array ends at the reference's attention of the launched arguments. -/
theorem kernel_value (m : (ℓ : Loc Cert.KernelIdeal.nD Cert.KernelIdeal.τ Cert.KernelIdeal.sig) → Buf (Elt Ideal) ℓ)
    (h : Cert.Pre_KernelIdeal_attention_inputs_finite m) (c : Dev Cert.KernelIdeal.nD) :
    (Cert.KernelIdeal.Gen.dats m 0 c).arrAt 3 Cert.KernelIdeal.cfg0.N
      = Cert.ReferenceIdeal.Read.val_main_v19 (F := Ideal) (m ((c : Thread Cert.KernelIdeal.nD Cert.KernelIdeal.τ).loc Cert.KernelIdeal.main_arg0))
          (m ((c : Thread Cert.KernelIdeal.nD Cert.KernelIdeal.τ).loc Cert.KernelIdeal.main_arg1))
          (m ((c : Thread Cert.KernelIdeal.nD Cert.KernelIdeal.τ).loc Cert.KernelIdeal.main_arg2)) := by
  obtain ⟨hq, hk, hqg, hkg⟩ := Cert.Pre_attention_inputs_finite.real_of_pre _ _ _ _ _ (h c)
  choose q hQ using hq
  choose k hK using hk
  obtain ⟨B, hB⟩ := bound_real _ _ hqg hkg
  refine (final m c).trans (funext fun i => ?_)
  refine Eq.trans ?_ ((ref_at _ _ _ (i 0) (i 1)).symm.trans (congrArg _ (eq_ix2 i).symm))
  exact arr_eq _ _ _ q k hQ hK _ _ _ B
    (hB ▸ queries_read m c : QueriesPacked _ _ _) (keys_read m c) (values_read m c) (i 0) (i 1)

/-- Over the extended reals, from real queries, keys and gains, the kernel and the reference end with one result. -/
theorem algebraic : Cert.algebraic_KernelIdeal_ReferenceIdeal_pre_attention_inputs_finite := fun m ρ m' ρ' hpre hag =>
  ⟨fun c => Cert.ReferenceIdeal.Read.val_main_v19 (F := Ideal) (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2)),
    (θ_run _ _ _).mono (fun _ h c => ⟨(h c).1.trans (kernel_value m hpre c), (h c).2⟩) (Cert.KernelIdeal.Value.run_blocks m ρ),
    (θ_run _ _ _).mono (fun _ h c => ⟨(h c).1.trans (by
      rw [Cert.ReferenceIdeal.Read.val_main_v19_eq, (hag c).1, (hag c).2.1, (hag c).2.2.1]), (h c).2⟩) (Cert.ReferenceIdeal.Value.run (F := Ideal) m' ρ')⟩

end Cert.Attention

end
-- ==== Proof.Ffn.Payloads.lean ====
/- The feed-forward kernel's payloads at an element, over the extended reals. -/
module

public import proofs.«01_k».proof.Proof.Gen.Kernel2Ideal.Value
public import Idealize.ShloMosaic.Lib.Pointwise
public import Idealize.ShloMosaic.Lib.Pipeline.ValueKit

@[expose] public section

set_option maxRecDepth 16384

noncomputable section

namespace Cert.Ffn

open Idealize.ShloMosaic Idealize.ShloMosaic.TcCoe Idealize.SL.Sem

/-- A hidden unit's activation: the square of the positive part of a row's product with a column. -/
def act (x w : Fin 1024 → EReal) : EReal := max (∑ k, x k * w k) 0 * max (∑ k, x k * w k) 0

/-- A row's mean, the sum divided by the number of columns. -/
def mean (y : Fin 1024 → EReal) : EReal := Ideal.div (∑ k, y k) (Ideal.ofBits .f32 0x44800000#32)

/-- A layer norm of a row, at a column. -/
def norm (y gain bias : Fin 1024 → EReal) (n : Fin 1024) : EReal :=
  (y n - mean y) * Ideal.rsqrt (mean (fun k => (y k - mean y) * (y k - mean y)) + Ideal.ofBits .f32 0x3727C5AC#32) * gain n + bias n

/-- A row of the residual sum. -/
def residual (x f : Fin 1024 → EReal) (n : Fin 1024) : EReal := Ideal.ofBits .f32 0x3FB504F3#32 * x n + f n

open Cert.Kernel2Ideal Cert.Kernel2Ideal.Gen

/-- The narrowed copy is the block. -/
theorem copy_at (x : FVec Ideal S1024x1024 .f32) (r k : Fin 1024) : (k0_pay1 (F := Ideal) x : FVec Ideal S1024x1024 .bf16) (ix2 r k) = x (ix2 r k) := by
  pointwise [k0_pay1]

/-- The accumulator starts at zero. -/
theorem zero_at (r n : Fin 1024) : (k0_pay2 (F := Ideal) : FVec Ideal S1024x1024 .f32) (ix2 r n) = (0 : EReal) := by
  pointwise [k0_pay2]

/-- A step adds the tile's hidden units, each times its row of the second weight. -/
theorem step_at (x : FVec Ideal S1024x1024 .bf16) (u : FVec Ideal S1x1024x1024 .bf16) (a : FVec Ideal S1024x1024 .f32)
    (d : FVec Ideal S1x1024x1024 .bf16) (r n : Fin 1024) :
    (k0_pay3 (F := Ideal) x u a d : FVec Ideal S1024x1024 .f32) (ix2 r n)
      = a (ix2 r n) + ∑ l : Fin 1024, act (fun k => x (ix2 r k)) (fun k => u (ix3 0 k l)) * d (ix3 0 l n) := by
  unfold act
  pointwise [k0_pay3]

/-- The last step's result is the layer norm of the residual sum. -/
theorem finish_at (x a : FVec Ideal S1024x1024 .f32) (g b : FVec Ideal S1x1024 .f32) (r n : Fin 1024) :
    (k0_pay4 (F := Ideal) x a g b : FVec Ideal S1024x1024 .f32) (ix2 r n)
      = norm (residual (fun k => x (ix2 r k)) (fun k => a (ix2 r k))) (fun k => g (ix2 0 k)) (fun k => b (ix2 0 k)) n := by
  unfold norm mean residual
  pointwise [k0_pay4]

end Cert.Ffn

end
-- ==== Proof.Ffn.Steps.lean ====
/- What a grid point of the feed-forward kernel leaves in its two scratch buffers and in its output block. -/
module

public import proofs.«01_k».proof.Proof.Ffn.Payloads
public import Idealize.ShloMosaic.Lib.Pipeline.ReadBack

@[expose] public section

set_option maxRecDepth 16384

noncomputable section

namespace Cert.Ffn

open Idealize.ShloMosaic Idealize.ShloMosaic.TcCoe Idealize.SL.Sem Cert.Kernel2Ideal Cert.Kernel2Ideal.Gen

variable (m : (ℓ : Loc nD τ sig) → Buf (Elt Ideal) ℓ) (c : Dev nD) (t : Fin cfg0.N)

/-- A run's first point copies its rows and accumulates its first tile over zeros. -/
theorem first (h0 : t.val % 4 = 0) :
    (outsAt0 m c t.val t.isLt).2.1 = k0_pay1 (iblk m c 0 t)
      ∧ (outsAt0 m c t.val t.isLt).2.2 = k0_pay3 (k0_pay1 (iblk m c 0 t)) (iblk m c 1 t) (k0_pay2 (F := Ideal)) (iblk m c 2 t) := by
  rw [outsAt0_A m c t h0 (by omega)]
  constructor
  · frame_out
  · frame_out

/-- A later point keeps the copy and accumulates its tile. -/
theorem later (h0 : ¬t.val % 4 = 0) :
    (outsAt0 m c t.val t.isLt).2.1 = (outsAt0 m c (t.val - 1) (by omega)).2.1
      ∧ (outsAt0 m c t.val t.isLt).2.2 = k0_pay3 (outsAt0 m c (t.val - 1) (by omega)).2.1 (iblk m c 1 t) (outsAt0 m c (t.val - 1) (by omega)).2.2 (iblk m c 2 t) := by
  by_cases h1 : t.val % 4 = 3
  · rw [outsAt0_C m c t h0 h1]
    constructor
    · rfl
    · frame_out
      simp only [read_unread_whole]
  · rw [outsAt0_B m c t h0 h1]
    constructor
    · rfl
    · frame_out
      simp only [read_unread_whole]

/-- A run's last point leaves the layer norm of its rows plus what it has accumulated. -/
theorem last (h1 : t.val % 4 = 3) :
    (outsAt0 m c t.val t.isLt).1 = k0_pay4 (iblk m c 0 t) (outsAt0 m c t.val t.isLt).2.2 (iblk m c 3 t) (iblk m c 4 t) := by
  rw [(later m c t (by omega)).2, outsAt0_C m c t (by omega) h1]
  frame_out
  simp only [read_unread_whole]

end Cert.Ffn

end
-- ==== Proof.Ffn.Array.lean ====
/- The feed-forward kernel's output array, element by element, over the arrays its windows read. -/
module

public import proofs.«01_k».proof.Proof.Ffn.Steps

@[expose] public section

set_option maxRecDepth 16384

noncomputable section

namespace Cert.Ffn

open Idealize.ShloMosaic Idealize.ShloMosaic.TcCoe Idealize.SL.Sem Cert.Kernel2Ideal Cert.Kernel2Ideal.Gen

/-- The block every window holds at a grid point. -/
theorem idx : ∀ t : Fin cfg0.N,
    win0_0.index t = ![t.val / 4, 0] ∧ win0_1.index t = ![1, 0, t.val % 4] ∧ win0_2.index t = ![1, t.val % 4, 0] ∧
    win0_3.index t = ![0, 0] ∧ win0_4.index t = ![0, 0] ∧ win0_5.index t = ![t.val / 4, 0] ∧ t.val < 128 :=
  (by decide +kernel : ∀ t : Fin grid0.N, _)

/-- The array's row of a point's block row. -/
def rowOf (t : Fin cfg0.N) (r : Fin 1024) : Fin 32768 := ⟨t.val / 4 * 1024 + r.val, by have := (idx t).2.2.2.2.2.2; omega⟩

/-- The hidden unit of a point's tile lane. -/
def unitOf (t : Fin cfg0.N) (l : Fin 1024) : Fin 4096 := ⟨t.val % 4 * 1024 + l.val, by omega⟩

/-- A point's rows, read in their array. -/
theorem rows_at (A : FVec Ideal S32768x1024 .f32) (t : Fin cfg0.N) (r k : Fin 1024) :
    (((cfg0.win 0).blk t).view.read (Elt Ideal) A : FVec Ideal S1024x1024 .f32) (ix2 r k) = A (ix2 (rowOf t r) k) := by
  unfold rowOf
  blk_ext [(idx t).1]

/-- A point's tile of the first weight, read in its array. -/
theorem up_at (A : FVec Ideal S2x1024x4096 .bf16) (t : Fin cfg0.N) (k l : Fin 1024) :
    (((cfg0.win 1).blk t).view.read (Elt Ideal) A : FVec Ideal S1x1024x1024 .bf16) (ix3 0 k l) = A (ix3 1 k (unitOf t l)) := by
  unfold unitOf
  blk_ext [(idx t).2.1]

/-- A point's tile of the second weight, read in its array. -/
theorem down_at (A : FVec Ideal S2x4096x1024 .bf16) (t : Fin cfg0.N) (l n : Fin 1024) :
    (((cfg0.win 2).blk t).view.read (Elt Ideal) A : FVec Ideal S1x1024x1024 .bf16) (ix3 0 l n) = A (ix3 1 (unitOf t l) n) := by
  unfold unitOf
  blk_ext [(idx t).2.2.1]

/-- The gain, read in its array. -/
theorem gain_at (A : FVec Ideal S1x1024 .f32) (t : Fin cfg0.N) (k : Fin 1024) :
    (((cfg0.win 3).blk t).view.read (Elt Ideal) A : FVec Ideal S1x1024 .f32) (ix2 0 k) = A (ix2 0 k) := by
  blk_ext [(idx t).2.2.2.1]

/-- The bias, read in its array. -/
theorem bias_at (A : FVec Ideal S1x1024 .f32) (t : Fin cfg0.N) (k : Fin 1024) :
    (((cfg0.win 4).blk t).view.read (Elt Ideal) A : FVec Ideal S1x1024 .f32) (ix2 0 k) = A (ix2 0 k) := by
  blk_ext [(idx t).2.2.2.2.1]

section

variable (X : FVec Ideal S32768x1024 .f32) (U : FVec Ideal S2x1024x4096 .bf16) (D : FVec Ideal S2x4096x1024 .bf16)
  (g b : FVec Ideal S1x1024 .f32)

/-- A hidden unit's share of a row's feed-forward product at a column. -/
def share (R : Fin 32768) (n : Fin 1024) (l : Fin 4096) : EReal :=
  act (fun k => X (ix2 R k)) (fun k => U (ix3 1 k l)) * D (ix3 1 l n)

/-- The layer norm of a row plus its feed-forward product. -/
def result (R : Fin 32768) (n : Fin 1024) : EReal :=
  norm (residual (fun k => X (ix2 R k)) (fun k => ∑ l, share X U D R k l)) (fun k => g (ix2 0 k)) (fun k => b (ix2 0 k)) n

/-- Arrays with the same entries give the same layer norm. -/
theorem result_congr (R : Fin 32768) (n : Fin 1024) (x gn bs : Fin 1024 → EReal) (u : Fin 1024 → Fin 4096 → EReal)
    (d : Fin 4096 → Fin 1024 → EReal) (hx : ∀ k, X (ix2 R k) = x k) (hu : ∀ k l, U (ix3 1 k l) = u k l)
    (hd : ∀ l n, D (ix3 1 l n) = d l n) (hg : ∀ k, g (ix2 0 k) = gn k) (hb : ∀ k, b (ix2 0 k) = bs k) :
    result X U D g b R n = norm (residual x (fun n => ∑ l, act x (fun k => u k l) * d l n)) gn bs n := by
  simp only [result, share, hx, hu, hd, hg, hb]

end

variable (m : (ℓ : Loc nD τ sig) → Buf (Elt Ideal) ℓ) (c : Dev nD)

/-- Every point holds the copy of its run's rows. -/
theorem copied : ∀ (n : ℕ) (hn : n < cfg0.N) (r k : Fin 1024),
    ((outsAt0 m c n hn).2.1 : FVec Ideal S1024x1024 .bf16) (ix2 r k)
      = (V m c (Pipeline.arrRef spec0 0) : FVec Ideal S32768x1024 .f32) (ix2 (rowOf ⟨n, hn⟩ r) k) := by
  intro n
  induction n with
  | zero =>
    intro hn r k
    rw [(first m c ⟨0, hn⟩ rfl).1, copy_at]
    exact rows_at _ _ r k
  | succ n ih =>
    intro hn r k
    by_cases h0 : (n + 1) % 4 = 0
    · rw [(first m c ⟨n + 1, hn⟩ h0).1, copy_at]
      exact rows_at _ _ r k
    · rw [(later m c ⟨n + 1, hn⟩ h0).1]
      refine (ih (by omega) r k).trans (congrArg (fun R => (V m c (Pipeline.arrRef spec0 0) : FVec Ideal S32768x1024 .f32) (ix2 R k)) (Fin.ext ?_))
      show n / 4 * 1024 + r.val = (n + 1) / 4 * 1024 + r.val
      omega

/-- What a point adds to the accumulator: its tile's shares. -/
theorem added (t : Fin cfg0.N) (x : FVec Ideal S1024x1024 .bf16)
    (hx : ∀ r k, x (ix2 r k) = (V m c (Pipeline.arrRef spec0 0) : FVec Ideal S32768x1024 .f32) (ix2 (rowOf t r) k))
    (a : FVec Ideal S1024x1024 .f32) (r n : Fin 1024) :
    (k0_pay3 (F := Ideal) x (iblk m c 1 t) a (iblk m c 2 t) : FVec Ideal S1024x1024 .f32) (ix2 r n)
      = a (ix2 r n) + ∑ l, share (V m c (Pipeline.arrRef spec0 0)) (V m c (Pipeline.arrRef spec0 1)) (V m c (Pipeline.arrRef spec0 2))
          (rowOf t r) n (unitOf t l) := by
  rw [step_at]
  refine congrArg (_ + ·) (Finset.sum_congr rfl fun l _ => congrArg₂ (· * ·) (congrArg₂ act (funext fun k => hx r k) (funext fun k => ?_)) ?_)
  · exact up_at _ t k l
  · exact down_at _ t l n

/-- A run's last point holds its rows' whole feed-forward product. -/
theorem total (t : Fin cfg0.N) (hf : t.val % 4 = 3) (r n : Fin 1024) :
    ((outsAt0 m c t.val t.isLt).2.2 : FVec Ideal S1024x1024 .f32) (ix2 r n)
      = ∑ l, share (V m c (Pipeline.arrRef spec0 0)) (V m c (Pipeline.arrRef spec0 1)) (V m c (Pipeline.arrRef spec0 2)) (rowOf t r) n l := by
  have h := Pipeline.eq_sum_fin_of_reset_step_apply_of_flush (M := EReal) (fun n h (i : Fin 1024 × Fin 1024) => ((outsAt0 m c n h).2.2 : FVec Ideal S1024x1024 .f32) (ix2 i.1 i.2)) 4
    (fun _ => 0) (fun t i => ∑ l, share (V m c (Pipeline.arrRef spec0 0)) (V m c (Pipeline.arrRef spec0 1)) (V m c (Pipeline.arrRef spec0 2)) (rowOf t i.1) i.2 (unitOf t l))
    (fun t h i => by
      refine (congrFun (first m c t h).2 _).trans ((added m c t _ (fun r k => (copy_at _ r k).trans (rows_at _ t r k)) _ i.1 i.2).trans ?_)
      rw [zero_at])
    (fun t h i => by
      refine (congrFun (later m c t h).2 _).trans (added m c t _ (fun r k => ?_) _ i.1 i.2)
      rw [← (later m c t h).1]
      exact copied m c t.val t.isLt r k)
    t hf (r, n)
  refine h.trans ((zero_add _).trans (Fin.sum_mul_add_congr fun s k hl => ?_))
  refine congrArg₂ (fun R l => share _ _ _ R n l) (Fin.ext ?_) (Fin.ext ?_)
  · show (4 * (t.val / 4) + s.val) / 4 * 1024 + r.val = t.val / 4 * 1024 + r.val
    omega
  · show (4 * (t.val / 4) + s.val) % 4 * 1024 + k.val = s.val * 1024 + k.val
    omega

/-- The output array ends at the layer norm of every row plus its feed-forward product. -/
theorem final : (dats m 0 c).arrAt 5 cfg0.N
    = fun i : S32768x1024.Idx => result (V m c (Pipeline.arrRef spec0 0)) (V m c (Pipeline.arrRef spec0 1)) (V m c (Pipeline.arrRef spec0 2))
        (V m c (Pipeline.arrRef spec0 3)) (V m c (Pipeline.arrRef spec0 4)) (i 0) (i 1) := by
  refine (dats m 0 c).arrAt_eq_of_covers 5 _ (by decide +kernel) fun t hf y => ?_
  blk_simp
  have h3 : t.val % 4 = 3 := (flush0_5 t).mp hf
  rw [after0_5, last m c t h3]
  have E0 : ((win0_5.blk t).view.emb y 0) = rowOf t (y 0) := Fin.ext (by unfold rowOf; blk_simp [(idx t).2.2.2.2.2.1])
  have E1 : ((win0_5.blk t).view.emb y 1) = y 1 := Fin.ext (by blk_simp [(idx t).2.2.2.2.2.1])
  refine (congrArg (k0_pay4 (F := Ideal) (iblk m c 0 t) _ (iblk m c 3 t) (iblk m c 4 t)) (eq_ix2 y)).trans ?_
  refine (finish_at _ _ _ _ (y 0) (y 1)).trans ?_
  refine Eq.trans ?_ (congrArg₂ (result _ _ _ _ _) E0.symm E1.symm)
  unfold result
  have e0 : (fun k => (iblk m c 0 t : FVec Ideal S1024x1024 .f32) (ix2 (y 0) k))
      = fun k => (V m c (Pipeline.arrRef spec0 0) : FVec Ideal S32768x1024 .f32) (ix2 (rowOf t (y 0)) k) := funext fun k => rows_at _ t (y 0) k
  have e1 := fun k => total m c t h3 (y 0) k
  have e3 : (fun k => (iblk m c 3 t : FVec Ideal S1x1024 .f32) (ix2 0 k))
      = fun k => (V m c (Pipeline.arrRef spec0 3) : FVec Ideal S1x1024 .f32) (ix2 0 k) := funext fun k => gain_at _ t k
  have e4 : (fun k => (iblk m c 4 t : FVec Ideal S1x1024 .f32) (ix2 0 k))
      = fun k => (V m c (Pipeline.arrRef spec0 4) : FVec Ideal S1x1024 .f32) (ix2 0 k) := funext fun k => bias_at _ t k
  rw [e0, funext e1, e3, e4]

end Cert.Ffn

end
-- ==== Proof.Ffn.Operands.lean ====
/- The arrays the feed-forward kernel's region reads, entry by entry, from the arguments. -/
module

public import proofs.«01_k».proof.Proof.Gen.Kernel2Ideal.Frame
public import Idealize.ShloMosaic.Lib.Pointwise
public import Idealize.ShloMosaic.Lib.Claim

@[expose] public section

set_option maxRecDepth 16384

noncomputable section

namespace Cert.Ffn

open Cert.Kernel2Ideal Cert.Kernel2Ideal.Gen Idealize.ShloMosaic Idealize.ShloMosaic.TcCoe Idealize.SL.Sem

variable (m : (ℓ : Loc nD τ sig) → Buf (Elt Ideal) ℓ) (c : Dev nD)

/-- The rows are the tokens, flattened. -/
theorem rows_read (R : Fin 32768) (k : Fin 1024) :
    (V m c main_v2 : FVec Ideal S32768x1024 .f32) (ix2 R k)
      = (m (c, Proc.tc.devRef main_arg0) : FVec Ideal S4x8192x1024 .f32) (ix3 ⟨R.val / 8192, by omega⟩ ⟨R.val % 8192, by omega⟩ k) := by
  simp only [V, hostOps0, List.flatten_cons, List.flatten_nil, List.cons_append, List.nil_append, List.append_nil]
  entry_read
  pointwise

/-- The first weight is its argument. -/
theorem up_read (i : S2x1024x4096.Idx) :
    (V m c main_v0 : FVec Ideal S2x1024x4096 .bf16) i = (m (c, Proc.tc.devRef main_arg1) : FVec Ideal S2x1024x4096 .f32) i := by
  simp only [V, hostOps0, List.flatten_cons, List.flatten_nil, List.cons_append, List.nil_append, List.append_nil]
  entry_read
  rfl

/-- The second weight is its argument. -/
theorem down_read (i : S2x4096x1024.Idx) :
    (V m c main_v1 : FVec Ideal S2x4096x1024 .bf16) i = (m (c, Proc.tc.devRef main_arg2) : FVec Ideal S2x4096x1024 .f32) i := by
  simp only [V, hostOps0, List.flatten_cons, List.flatten_nil, List.cons_append, List.nil_append, List.append_nil]
  entry_read
  rfl

/-- The gain is the last layer's. -/
theorem gain_read (k : Fin 1024) :
    (V m c main_v7 : FVec Ideal S1x1024 .f32) (ix2 0 k) = (m (c, Proc.tc.devRef main_arg3) : FVec Ideal S2x1024 .f32) (ix2 1 k) := by
  simp only [V, hostOps0, List.flatten_cons, List.flatten_nil, List.cons_append, List.nil_append, List.append_nil]
  entry_read
  pointwise

/-- The bias is the last layer's. -/
theorem bias_read (k : Fin 1024) :
    (V m c main_v8 : FVec Ideal S1x1024 .f32) (ix2 0 k) = (m (c, Proc.tc.devRef main_arg4) : FVec Ideal S2x1024 .f32) (ix2 1 k) := by
  simp only [V, hostOps0, List.flatten_cons, List.flatten_nil, List.cons_append, List.nil_append, List.append_nil]
  entry_read
  pointwise

end Cert.Ffn

end
-- ==== Proof.Ffn.Reference.lean ====
/- The reference feed-forward layer at an element: the layer norm of a token plus its feed-forward product. -/
module

public import proofs.«01_k».proof.Proof.Gen.Reference2Ideal.Read
public import proofs.«01_k».proof.Proof.Ffn.Payloads
public import Idealize.ShloMosaic.Lib.Pointwise
public import Idealize.ShloMosaic.Lib.Pipeline.ValueKit

@[expose] public section

set_option maxRecDepth 16384
noncomputable section

namespace Cert.Ffn.Ref

open Cert.Reference2Ideal Cert.Reference2Ideal.Read Idealize.ShloMosaic Idealize.ShloMosaic.TcCoe Idealize.SL.Sem

variable (X : FVec Ideal S4x8192x1024 .f32) (U : FVec Ideal S2x1024x4096 .f32) (D : FVec Ideal S2x4096x1024 .f32)
  (g b : FVec Ideal S2x1024 .f32) (B : Fin 4) (s : Fin 8192)

/-- A hidden unit of a token: the squared positive part of its product with the unit's weights. -/
theorem hidden_at (l : Fin 4096) :
    val_main_v4 (F := Ideal) X U (ix3 B s l) = act (fun k => X (ix3 B s k)) (fun k => U (ix3 1 k l)) := by
  have h : val_main_v2 (F := Ideal) X U (ix3 B s l) = ∑ k : Fin 1024, X (ix3 B s k) * U (ix3 1 k l) := by
    rw [val_main_v2_apply]
    refine Finset.sum_congr rfl fun k _ => ?_
    rw [val_main_v1_apply, val_main_v0_apply]
    refine congrArg₂ (· * ·) (congrArg X ?_) (congrArg U ?_)
    all_goals blk_ext []
  rw [val_main_v4_apply, val_main_v3_apply, val_main_call0_v0_apply, val_main_call0_cst_apply, h]
  show (max _ (Ideal.ofBits .f32 0x00000000#32) : EReal) * max _ (Ideal.ofBits .f32 0x00000000#32) = _
  rw [Ideal.ofBits_zero]
  rfl

/-- A token scaled by the residual factor plus its feed-forward product. -/
theorem residual_at (n : Fin 1024) :
    val_main_v10 (F := Ideal) X U D (ix3 B s n)
      = residual (fun k => X (ix3 B s k)) (fun n => ∑ l : Fin 4096, act (fun k => X (ix3 B s k)) (fun k => U (ix3 1 k l)) * D (ix3 1 l n)) n := by
  rw [val_main_v10_apply, val_main_v9_apply, val_main_v8_apply, val_main_cst_apply, val_main_v7_apply]
  refine congrArg (Ideal.ofBits .f32 0x3FB504F3#32 * X (ix3 B s n) + ·) (Finset.sum_congr rfl fun l _ => ?_)
  rw [val_main_v6_apply, val_main_v5_apply, ← hidden_at X U B s l]
  refine congrArg₂ (· * ·) (congrArg _ ?_) (congrArg D ?_)
  all_goals blk_ext []

/-- The mean over a token's features. -/
theorem mean_at :
    val_main_v18 (F := Ideal) X U D (ix3 B s 0) = mean (fun k => val_main_v10 (F := Ideal) X U D (ix3 B s k)) := by
  rw [val_main_v18_apply, val_main_v17_apply, val_main_cst_1_apply, val_main_v16_apply, val_main_v15_apply, val_main_cst_0_apply]
  show Ideal.div (Ideal.ofBits .f32 0x00000000#32 + _) _ = _
  rw [Ideal.ofBits_zero, zero_add]
  refine congrArg (Ideal.div · _) (Finset.sum_congr rfl fun k _ => congrArg _ ?_)
  blk_ext []

/-- A feature less its token's mean. -/
theorem centred_at (n : Fin 1024) :
    val_main_v20 (F := Ideal) X U D (ix3 B s n)
      = (val_main_v10 (F := Ideal) X U D (ix3 B s n) - mean (fun k => val_main_v10 (F := Ideal) X U D (ix3 B s k)) : EReal) := by
  rw [val_main_v20_apply, val_main_v19_apply, ← mean_at]
  refine congrArg (fun i => (val_main_v10 (F := Ideal) X U D (ix3 B s n) - val_main_v18 (F := Ideal) X U D i : EReal)) ?_
  blk_ext []

/-- The mean of a token's squared centred features. -/
theorem spread_at :
    val_main_v25 (F := Ideal) X U D (ix3 B s 0)
      = mean (fun k => (val_main_v20 (F := Ideal) X U D (ix3 B s k) * val_main_v20 (F := Ideal) X U D (ix3 B s k) : EReal)) := by
  rw [val_main_v25_apply, val_main_v24_apply, val_main_cst_3_apply, val_main_v23_apply, val_main_v22_apply, val_main_cst_2_apply]
  show Ideal.div (Ideal.ofBits .f32 0x00000000#32 + _) _ = _
  rw [Ideal.ofBits_zero, zero_add]
  refine congrArg (Ideal.div · _) (Finset.sum_congr rfl fun k _ => (val_main_v21_apply ..).trans ?_)
  refine congrArg (fun i => (val_main_v20 (F := Ideal) X U D i * val_main_v20 (F := Ideal) X U D i : EReal)) ?_
  blk_ext []

/-- The layer's gain. -/
theorem gain_row (n : Fin 1024) : val_main_v32 (F := Ideal) g (ix3 B s n) = g (ix2 1 n) := by
  rw [val_main_v32_apply, val_main_v31_apply, val_main_v12_apply, val_main_v11_apply]
  refine congrArg g ?_
  blk_ext []

/-- The layer's bias. -/
theorem bias_row (n : Fin 1024) : val_main_v35 (F := Ideal) b (ix3 B s n) = b (ix2 1 n) := by
  rw [val_main_v35_apply, val_main_v34_apply, val_main_v14_apply, val_main_v13_apply]
  refine congrArg b ?_
  blk_ext []

/-- The reference's element: the layer norm of the token plus its feed-forward product. -/
theorem token_at (n : Fin 1024) :
    val_main_v36 (F := Ideal) X U D g b (ix3 B s n)
      = norm (residual (fun k => X (ix3 B s k)) (fun n => ∑ l : Fin 4096, act (fun k => X (ix3 B s k)) (fun k => U (ix3 1 k l)) * D (ix3 1 l n)))
          (fun k => g (ix2 1 k)) (fun k => b (ix2 1 k)) n := by
  have e : (fun k => val_main_v10 (F := Ideal) X U D (ix3 B s k)) = _ := funext (residual_at X U D B s)
  have h : val_main_v29 (F := Ideal) X U D (ix3 B s n) = val_main_v28 (F := Ideal) X U D (ix3 B s 0) := by
    rw [val_main_v29_apply]
    refine congrArg _ ?_
    blk_ext []
  rw [val_main_v36_apply, val_main_v33_apply, val_main_v30_apply, gain_row, bias_row, h, val_main_v28_apply, val_main_v27_apply,
    val_main_v26_apply, val_main_cst_4_apply, spread_at]
  simp only [centred_at, e, residual_at]
  rfl

/-- The flat result's element is its token's. -/
theorem ref_at (R : Fin 32768) (n : Fin 1024) :
    val_main_v37 (F := Ideal) X U D g b (ix2 R n)
      = val_main_v36 (F := Ideal) X U D g b (ix3 ⟨R.val / 8192, by omega⟩ ⟨R.val % 8192, by omega⟩ n) := by
  rw [val_main_v37_apply]
  refine congrArg _ ?_
  blk_ext []

end Cert.Ffn.Ref

end
-- ==== Proof.Ffn.Claims.lean ====
/- The feed-forward's claims: the frames and the equality with the reference. -/
module

public import proofs.«01_k».proof.Defs
public import proofs.«01_k».proof.Proof.Gen.Kernel2.Frame
public import proofs.«01_k».proof.Proof.Gen.Kernel2Ideal.Value
public import proofs.«01_k».proof.Proof.Ffn.Array
public import proofs.«01_k».proof.Proof.Ffn.Operands
public import proofs.«01_k».proof.Proof.Ffn.Reference
public import Idealize.ShloMosaic.Lib.Claim

@[expose] public section

set_option maxRecDepth 16384

noncomputable section

namespace Cert.Ffn

open Idealize.ShloMosaic Idealize.ShloMosaic.TcCoe Idealize.SL.Sem

local instance : Cert.Kernel2.Facts := Cert.Kernel2.Gen.facts
local instance : Cert.Kernel2Ideal.Facts := Cert.Kernel2Ideal.Gen.facts
local instance : Cert.Reference2Ideal.Facts := Cert.Reference2Ideal.Gen.facts

/-- The kernel runs, leaves its arguments and ends quiescent. -/
theorem frame_kernel : Cert.quiescent_Kernel2 := fun m ρ _ => Cert.Kernel2.Gen.frame m ρ

/-- So does its idealization. -/
theorem frame_ideal : Cert.quiescent_Kernel2Ideal := fun m ρ _ => Cert.Kernel2Ideal.Gen.frame m ρ

/-- So does the reference: it has no semaphore. -/
theorem frame_reference : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The kernel's array ends at the reference's layer of the launched arguments. -/
theorem kernel_value (m : (ℓ : Loc Cert.Kernel2Ideal.nD Cert.Kernel2Ideal.τ Cert.Kernel2Ideal.sig) → Buf (Elt Ideal) ℓ)
    (c : Dev Cert.Kernel2Ideal.nD) :
    (Cert.Kernel2Ideal.Gen.dats m 0 c).arrAt 5 Cert.Kernel2Ideal.cfg0.N
      = Cert.Reference2Ideal.Read.val_main_v37 (F := Ideal) (m ((c : Thread Cert.Kernel2Ideal.nD Cert.Kernel2Ideal.τ).loc Cert.Kernel2Ideal.main_arg0))
          (m ((c : Thread Cert.Kernel2Ideal.nD Cert.Kernel2Ideal.τ).loc Cert.Kernel2Ideal.main_arg1))
          (m ((c : Thread Cert.Kernel2Ideal.nD Cert.Kernel2Ideal.τ).loc Cert.Kernel2Ideal.main_arg2))
          (m ((c : Thread Cert.Kernel2Ideal.nD Cert.Kernel2Ideal.τ).loc Cert.Kernel2Ideal.main_arg3))
          (m ((c : Thread Cert.Kernel2Ideal.nD Cert.Kernel2Ideal.τ).loc Cert.Kernel2Ideal.main_arg4)) := by
  refine (final m c).trans (funext fun i => ?_)
  refine Eq.trans ?_ (((Ref.ref_at _ _ _ _ _ (i 0) (i 1)).trans (Ref.token_at ..)).symm.trans (congrArg _ (eq_ix2 i).symm))
  exact result_congr _ _ _ _ _ (i 0) (i 1) _ _ _ _ _ (rows_read m c (i 0)) (fun k l => up_read m c (ix3 1 k l))
    (fun l n => down_read m c (ix3 1 l n)) (gain_read m c) (bias_read m c)

/-- Over the extended reals the kernel and the reference end with one result. -/
theorem algebraic : Cert.algebraic_Kernel2Ideal_Reference2Ideal := fun m ρ m' ρ' hpre hag =>
  ⟨fun c => Cert.Reference2Ideal.Read.val_main_v37 (F := Ideal) (m ((c : Thread Cert.Kernel2Ideal.nD Cert.Kernel2Ideal.τ).loc Cert.Kernel2Ideal.main_arg0))
      (m ((c : Thread Cert.Kernel2Ideal.nD Cert.Kernel2Ideal.τ).loc Cert.Kernel2Ideal.main_arg1))
      (m ((c : Thread Cert.Kernel2Ideal.nD Cert.Kernel2Ideal.τ).loc Cert.Kernel2Ideal.main_arg2))
      (m ((c : Thread Cert.Kernel2Ideal.nD Cert.Kernel2Ideal.τ).loc Cert.Kernel2Ideal.main_arg3))
      (m ((c : Thread Cert.Kernel2Ideal.nD Cert.Kernel2Ideal.τ).loc Cert.Kernel2Ideal.main_arg4)),
    (θ_run _ _ _).mono (fun _ h c => ⟨(h c).1.trans (kernel_value m c), (h c).2⟩) (Cert.Kernel2Ideal.Value.run_blocks m ρ),
    (θ_run _ _ _).mono (fun _ h c => ⟨(h c).1.trans (by
      rw [Cert.Reference2Ideal.Read.val_main_v37_eq, (hag c).1, (hag c).2.1, (hag c).2.2.1, (hag c).2.2.2.1, (hag c).2.2.2.2]), (h c).2⟩) (Cert.Reference2Ideal.Value.run (F := Ideal) m' ρ')⟩

end Cert.Ffn

end
-- ==== Proof.Proj.Payloads.lean ====
/- The input projection's payloads at an element, over the extended reals. -/
module

public import proofs.«01_k».proof.Proof.Gen.Kernel4Ideal.Skeleton
public import Idealize.ShloMosaic.Lib.Pointwise
public import Idealize.ShloMosaic.Lib.Pipeline.ValueKit

@[expose] public section

set_option maxRecDepth 16384

noncomputable section

namespace Cert.Proj

open Idealize.ShloMosaic Idealize.ShloMosaic.TcCoe Idealize.SL.Sem Cert.Kernel4Ideal Cert.Kernel4Ideal.Gen

/-- The neighbourhood keys of a point: rows 640 on of the transposed weight times the tokens. -/
theorem keys_at (x : FVec Ideal S512x1024 .f32) (w : FVec Ideal S1x1152x1024 .bf16) (n s : Fin 512) :
    (k0_pay51 (F := Ideal) (k0_pay50 (k0_pay3 x w)) : FVec Ideal S1x512x512 .bf16) (ix3 0 n s)
      = ∑ k : Fin 1024, w (ix3 0 ⟨640 + n.val, by omega⟩ k) * x (ix2 s k) := by
  pointwise [k0_pay51, k0_pay50, k0_pay3, k0_pay2]

/-- The neighbourhood queries of a point: the tokens times the weight's columns, scaled. -/
theorem queries_at (x : FVec Ideal S512x1024 .f32) (w : FVec Ideal S1x1024x512 .bf16) (z : FVec Ideal S512x512 .f32)
    (hz : z = constant S512x512 .f32 0x00000000#32) (r n : Fin 512) :
    (k0_pay61 (F := Ideal) (k0_pay2 x) (k0_pay60 w) z : FVec Ideal S512x512 .f32) (ix2 r n)
      = (∑ k : Fin 1024, x (ix2 r k) * w (ix3 0 k n)) * Ideal.ofBits .f32 0x3E000000#32 := by
  subst hz
  pointwise [k0_pay61, k0_pay60, k0_pay2]

/-- The neighbourhood values of a point: the tokens times the weight's columns. -/
theorem values_at (x : FVec Ideal S512x1024 .f32) (w : FVec Ideal S1x1024x512 .bf16) (r n : Fin 512) :
    (k0_pay62 (F := Ideal) (k0_pay2 x) w : FVec Ideal S512x512 .f32) (ix2 r n)
      = ∑ k : Fin 1024, x (ix2 r k) * w (ix3 0 k n) := by
  pointwise [k0_pay62, k0_pay2]

/-- A third of a point's gates: the logistic function of the tokens times the weight's columns. -/
theorem gates_at (x : FVec Ideal S512x1024 .f32) (w : FVec Ideal S1x1024x1024 .bf16) (r : Fin 512) (n : Fin 1024) :
    (k0_pay316 (F := Ideal) (k0_pay2 x) w : FVec Ideal S512x1024 .bf16) (ix2 r n)
      = Ideal.logistic (∑ k : Fin 1024, x (ix2 r k) * w (ix3 0 k n)) := by
  pointwise [k0_pay316, k0_pay2]

end Cert.Proj

end
-- ==== Proof.Proj.Steps.lean ====
/- What a grid point of the projection leaves in its blocks of neighbourhood keys, queries, values and gates. -/
module

public import proofs.«01_k».proof.Proof.Gen.Kernel4Ideal.Value
public import proofs.«01_k».proof.Proof.Proj.Payloads

@[expose] public section

set_option maxRecDepth 16384

noncomputable section

namespace Cert.Proj

open Idealize.ShloMosaic Idealize.ShloMosaic.TcCoe Idealize.SL.Sem Cert.Kernel4Ideal Cert.Kernel4Ideal.Gen

variable (m : (ℓ : Loc nD τ sig) → Buf (Elt Ideal) ℓ) (c : Dev nD) (t : Fin cfg0.N)

/-- The block of keys is one store. -/
theorem keys_step : (outsAt0 m c t).2.2.1 = k0_pay51 (k0_pay50 (k0_pay3 (iblk m c 0 t) (iblk m c 1 t))) := by
  unfold outsAt0
  frame_out

/-- The block of queries is eight stores, each 64 columns of one product. -/
theorem queries_step (y : S8x512x64.Idx) (i : S512x512.Idx) (hi0 : (i 0 : ℕ) = y 1) (hi1 : (i 1 : ℕ) = y 0 * 64 + y 2) :
    (outsAt0 m c t).2.2.2.2.1 y
      = (k0_pay61 (F := Ideal) (k0_pay2 (iblk m c 0 t)) (k0_pay60 (View.ld (iblk m c 2 t) (Rect.unit ![0, 0, 768] ![1, 1024, 512] inb_S1x1024x5888_S1x1024x512_0_0_768)))
          (constant S512x512 .f32 0x00000000#32) : FVec Ideal S512x512 .f32) i := by
  unfold outsAt0
  frame_out
  canon_tiles x h
  all_goals
    open_payloads
    generalize k0_pay61 (F := Ideal) _ _ _ = T
    pointwise
    blk_ext

/-- The block of values is eight stores, each 64 columns of one product. -/
theorem values_step (y : S8x512x64.Idx) (i : S512x512.Idx) (hi0 : (i 0 : ℕ) = y 1) (hi1 : (i 1 : ℕ) = y 0 * 64 + y 2) :
    (outsAt0 m c t).2.2.2.2.2.1 y
      = (k0_pay62 (F := Ideal) (k0_pay2 (iblk m c 0 t)) (View.ld (iblk m c 2 t) (Rect.unit ![0, 0, 1792] ![1, 1024, 512] inb_S1x1024x5888_S1x1024x512_0_0_1792)) : FVec Ideal S512x512 .f32) i := by
  unfold outsAt0
  frame_out
  canon_tiles x h
  all_goals
    open_payloads
    generalize k0_pay62 (F := Ideal) _ _ = T
    pointwise
    blk_ext

/-- A point's gate is the logistic function of a row's product with the weight's column 2816 on. -/
theorem gates_step (X : FVec Ideal S512x1024 .f32) (W : FVec Ideal S1x1024x5888 .bf16) (hX : iblk m c 0 t = X) (hW : iblk m c 2 t = W)
    (y : S512x3072.Idx) (r : Fin 512) (n : Fin 3072) (hr : (y 0 : ℕ) = r) (hn : (y 1 : ℕ) = n) :
    (outsAt0 m c t).2.2.2.2.2.2.2 y
      = Ideal.logistic (∑ k : Fin 1024, X (ix2 r k) * W (ix3 0 k ⟨2816 + n.val, by omega⟩)) := by
  unfold outsAt0
  frame_out
  rw [hX, hW]
  canon_tiles x h
  all_goals
    open_payloads
    pointwise
    blk_point []

end Cert.Proj

end
-- ==== Proof.Proj.Array.lean ====
/- The projection's four output arrays, element by element, over the arrays its windows read. -/
module

public import proofs.«01_k».proof.Proof.Proj.Steps

@[expose] public section

set_option maxRecDepth 16384

noncomputable section

namespace Cert.Proj

open Idealize.ShloMosaic Idealize.ShloMosaic.TcCoe Idealize.SL.Sem Cert.Kernel4Ideal Cert.Kernel4Ideal.Gen

/-- The block every window holds at a grid point. -/
theorem idx : ∀ t : Fin cfg0.N,
    win0_0.index t = ![t.val, 0] ∧ win0_1.index t = ![1, 0, 0] ∧ win0_2.index t = ![1, 0, 0] ∧
    win0_14.index t = ![t.val / 16, 0, t.val % 16] ∧ win0_16.index t = ![0, t.val, 0] ∧ win0_17.index t = ![0, t.val, 0] ∧
    win0_19.index t = ![t.val, 0] ∧ t.val < 64 :=
  (by decide +kernel : ∀ t : Fin grid0.N, _)

/-- The array's row of a point's block row. -/
def rowOf (t : Fin cfg0.N) (r : Fin 512) : Fin 32768 := ⟨t.val * 512 + r.val, by have := (idx t).2.2.2.2.2.2.2; omega⟩

/-- A point's rows, read in their array. -/
theorem rows_at (A : FVec Ideal S32768x1024 .f32) (t : Fin cfg0.N) (r : Fin 512) (k : Fin 1024) :
    (((cfg0.win 0).blk t).view.read (Elt Ideal) A : FVec Ideal S512x1024 .f32) (ix2 r k) = A (ix2 (rowOf t r) k) := by
  unfold rowOf
  blk_ext [(idx t).1]

/-- The transposed weight of the last layer, read in its array. -/
theorem turned_at (A : FVec Ideal S2x1152x1024 .bf16) (t : Fin cfg0.N) (n : Fin 1152) (k : Fin 1024) :
    (((cfg0.win 1).blk t).view.read (Elt Ideal) A : FVec Ideal S1x1152x1024 .bf16) (ix3 0 n k) = A (ix3 1 n k) := by
  blk_ext [(idx t).2.1]

/-- The weight of the last layer, read in its array. -/
theorem weight_at (A : FVec Ideal S2x1024x5888 .bf16) (t : Fin cfg0.N) (k : Fin 1024) (n : Fin 5888) :
    (((cfg0.win 2).blk t).view.read (Elt Ideal) A : FVec Ideal S1x1024x5888 .bf16) (ix3 0 k n) = A (ix3 1 k n) := by
  blk_ext [(idx t).2.2.1]

/-- A row's projection onto a column of the last layer's weight. -/
def column (X : FVec Ideal S32768x1024 .f32) (W : FVec Ideal S2x1024x5888 .bf16) (R : Fin 32768) (n : Fin 5888) : EReal :=
  ∑ k : Fin 1024, X (ix2 R k) * W (ix3 1 k n)

/-- A row's projection onto a row of the last layer's transposed weight. -/
def turned (X : FVec Ideal S32768x1024 .f32) (T : FVec Ideal S2x1152x1024 .bf16) (R : Fin 32768) (n : Fin 1152) : EReal :=
  ∑ k : Fin 1024, T (ix3 1 n k) * X (ix2 R k)

/-- The query columns of a block of the weight, read in the block. -/
theorem queryCols_at (B : FVec Ideal S1x1024x5888 .bf16) (k : Fin 1024) (n : Fin 512) :
    View.ld (S := S1x1024x5888) (Val := Elt Ideal) (e' := .bf16) B (Rect.unit (s := S1x1024x5888) ![0, 0, 768] ![1, 1024, 512] inb_S1x1024x5888_S1x1024x512_0_0_768)
        (ix3 (0 : Fin 1) k n : S1x1024x512.Idx)
      = B (ix3 0 k ⟨768 + n.val, by omega⟩) := by
  pointwise

/-- The value columns of a block of the weight, read in the block. -/
theorem valueCols_at (B : FVec Ideal S1x1024x5888 .bf16) (k : Fin 1024) (n : Fin 512) :
    View.ld (S := S1x1024x5888) (Val := Elt Ideal) (e' := .bf16) B (Rect.unit (s := S1x1024x5888) ![0, 0, 1792] ![1, 1024, 512] inb_S1x1024x5888_S1x1024x512_0_0_1792)
        (ix3 (0 : Fin 1) k n : S1x1024x512.Idx)
      = B (ix3 0 k ⟨1792 + n.val, by omega⟩) := by
  pointwise

variable (m : (ℓ : Loc nD τ sig) → Buf (Elt Ideal) ℓ) (c : Dev nD)

/-- The key array ends at the projections onto the transposed weight's last rows, a column per token. -/
theorem final_keys : (dats m 0 c).arrAt 14 cfg0.N
    = fun i : S4x512x8192.Idx => turned (V m c (Pipeline.arrRef spec0 0)) (V m c (Pipeline.arrRef spec0 1))
        ⟨(i 0 : Fin 4).val * 8192 + (i 2 : Fin 8192).val, by have : (i 0 : Fin 4).val < 4 := (i 0 : Fin 4).isLt; have : (i 2 : Fin 8192).val < 8192 := (i 2 : Fin 8192).isLt; omega⟩
        ⟨640 + (i 1 : Fin 512).val, by have : (i 1 : Fin 512).val < 512 := (i 1 : Fin 512).isLt; omega⟩ := by
  refine (dats m 0 c).arrAt_eq_of_covers 14 _ (by decide +kernel) fun t hf y => ?_
  rw [after0_14, keys_step m c t]
  have ht := (idx t).2.2.2.2.2.2.2
  have y0 : (y 0 : ℕ) = 0 := by have : (y 0 : ℕ) < 1 := (y 0).isLt; omega
  have hy : y = ix3 (0 : Fin 1) (y 1 : Fin 512) (y 2 : Fin 512) := by blk_ext []
  refine (congrArg (k0_pay51 (F := Ideal) (k0_pay50 (k0_pay3 (iblk m c 0 t) (iblk m c 1 t)))) hy).trans ((keys_at _ _ (y 1) (y 2)).trans ?_)
  unfold turned
  refine Finset.sum_congr rfl fun k _ => congrArg₂ (· * ·) ((turned_at _ t _ k).trans (congrArg (fun n => (V m c (Pipeline.arrRef spec0 1) : FVec Ideal S2x1152x1024 .bf16) (ix3 1 n k)) ?_))
    ((rows_at _ t _ k).trans (congrArg (fun R => (V m c (Pipeline.arrRef spec0 0) : FVec Ideal S32768x1024 .f32) (ix2 R k)) ?_))
  · refine Fin.ext ?_
    blk_simp [(idx t).2.2.2.1]
  · refine Fin.ext ?_
    unfold rowOf
    blk_simp [(idx t).2.2.2.1]
    dsimp only
    omega

/-- The query array ends at the scaled projections onto the query columns, head by head. -/
theorem final_queries : (dats m 0 c).arrAt 16 cfg0.N
    = fun i : S8x32768x64.Idx => column (V m c (Pipeline.arrRef spec0 0)) (V m c (Pipeline.arrRef spec0 2)) (i 1)
        ⟨768 + ((i 0 : Fin 8).val * 64 + (i 2 : Fin 64).val), by have : (i 0 : Fin 8).val < 8 := (i 0 : Fin 8).isLt; have : (i 2 : Fin 64).val < 64 := (i 2 : Fin 64).isLt; omega⟩
        * Ideal.ofBits .f32 0x3E000000#32 := by
  refine (dats m 0 c).arrAt_eq_of_covers 16 _ (by decide +kernel) fun t hf y => ?_
  rw [after0_16]
  have b0 : (y 0 : ℕ) < 8 := (y 0).isLt
  have b2 : (y 2 : ℕ) < 64 := (y 2).isLt
  refine (queries_step m c t y (ix2 (y 1 : Fin 512) (⟨(y 0 : ℕ) * 64 + y 2, by omega⟩ : Fin 512)) rfl rfl).trans ((queries_at _ _ _ rfl _ _).trans ?_)
  unfold column
  refine congrArg (· * Ideal.ofBits .f32 0x3E000000#32) (Finset.sum_congr rfl fun k _ => congrArg₂ (· * ·) ?_ ?_)
  · refine (rows_at _ t _ k).trans (congrArg (fun R => (V m c (Pipeline.arrRef spec0 0) : FVec Ideal S32768x1024 .f32) (ix2 R k)) (Fin.ext ?_))
    unfold rowOf
    blk_simp [(idx t).2.2.2.2.1]
  · refine (queryCols_at _ k _).trans ((weight_at _ t k _).trans (congrArg (fun n => (V m c (Pipeline.arrRef spec0 2) : FVec Ideal S2x1024x5888 .bf16) (ix3 1 k n)) (Fin.ext ?_)))
    blk_simp [(idx t).2.2.2.2.1]

/-- The value array ends at the projections onto the value columns, head by head. -/
theorem final_values : (dats m 0 c).arrAt 17 cfg0.N
    = fun i : S8x32768x64.Idx => column (V m c (Pipeline.arrRef spec0 0)) (V m c (Pipeline.arrRef spec0 2)) (i 1)
        ⟨1792 + ((i 0 : Fin 8).val * 64 + (i 2 : Fin 64).val), by have : (i 0 : Fin 8).val < 8 := (i 0 : Fin 8).isLt; have : (i 2 : Fin 64).val < 64 := (i 2 : Fin 64).isLt; omega⟩ := by
  refine (dats m 0 c).arrAt_eq_of_covers 17 _ (by decide +kernel) fun t hf y => ?_
  rw [after0_17]
  have b0 : (y 0 : ℕ) < 8 := (y 0).isLt
  have b2 : (y 2 : ℕ) < 64 := (y 2).isLt
  refine (values_step m c t y (ix2 (y 1 : Fin 512) (⟨(y 0 : ℕ) * 64 + y 2, by omega⟩ : Fin 512)) rfl rfl).trans ((values_at _ _ _ _).trans ?_)
  unfold column
  refine Finset.sum_congr rfl fun k _ => congrArg₂ (· * ·) ?_ ?_
  · refine (rows_at _ t _ k).trans (congrArg (fun R => (V m c (Pipeline.arrRef spec0 0) : FVec Ideal S32768x1024 .f32) (ix2 R k)) (Fin.ext ?_))
    unfold rowOf
    blk_simp [(idx t).2.2.2.2.2.1]
  · refine (valueCols_at _ k _).trans ((weight_at _ t k _).trans (congrArg (fun n => (V m c (Pipeline.arrRef spec0 2) : FVec Ideal S2x1024x5888 .bf16) (ix3 1 k n)) (Fin.ext ?_)))
    blk_simp [(idx t).2.2.2.2.2.1]

/-- The gate array ends at the logistic function of the projections onto the gate columns. -/
theorem final_gates : (dats m 0 c).arrAt 19 cfg0.N
    = fun i : S32768x3072.Idx => Ideal.logistic (column (V m c (Pipeline.arrRef spec0 0)) (V m c (Pipeline.arrRef spec0 2)) (i 0)
        ⟨2816 + (i 1 : Fin 3072).val, by have : (i 1 : Fin 3072).val < 3072 := (i 1 : Fin 3072).isLt; omega⟩) := by
  refine (dats m 0 c).arrAt_eq_of_covers 19 _ (by decide +kernel) fun t hf y => ?_
  rw [after0_19]
  refine (gates_step m c t _ _ rfl rfl y (y 0 : Fin 512) (y 1 : Fin 3072) rfl rfl).trans ?_
  unfold column
  refine congrArg Ideal.logistic (Finset.sum_congr rfl fun k _ => congrArg₂ (· * ·) ?_ ?_)
  · refine (rows_at _ t _ k).trans (congrArg (fun R => (V m c (Pipeline.arrRef spec0 0) : FVec Ideal S32768x1024 .f32) (ix2 R k)) (Fin.ext ?_))
    unfold rowOf
    blk_simp [(idx t).2.2.2.2.2.2.1]
  · refine (weight_at _ t k _).trans (congrArg (fun n => (V m c (Pipeline.arrRef spec0 2) : FVec Ideal S2x1024x5888 .bf16) (ix3 1 k n)) (Fin.ext ?_))
    blk_simp [(idx t).2.2.2.2.2.2.1]

end Cert.Proj

end
-- ==== Proof.Proj.Operands.lean ====
/- The arrays the projection's region reads, entry by entry, from the arguments. -/
module

public import proofs.«01_k».proof.Proof.Gen.Kernel4Ideal.Frame
public import Idealize.ShloMosaic.Lib.Pointwise
public import Idealize.ShloMosaic.Lib.Claim
public import Idealize.ShloMosaic.Lib.Pipeline.ValueKit

@[expose] public section

set_option maxRecDepth 16384

noncomputable section

namespace Cert.Proj

open Cert.Kernel4Ideal Cert.Kernel4Ideal.Gen Idealize.ShloMosaic Idealize.ShloMosaic.TcCoe Idealize.SL.Sem

variable (m : (ℓ : Loc nD τ sig) → Buf (Elt Ideal) ℓ) (c : Dev nD)

/-- The rows are the tokens, flattened. -/
theorem rows_read (R : Fin 32768) (k : Fin 1024) :
    (V m c main_v6 : FVec Ideal S32768x1024 .f32) (ix2 R k)
      = (m (c, Proc.tc.devRef main_arg0) : FVec Ideal S4x8192x1024 .f32) (ix3 ⟨R.val / 8192, by omega⟩ ⟨R.val % 8192, by omega⟩ k) := by
  simp only [V, hostOps0, hostOps0_1, hostOps0_2, hostOps0_3, hostOps0_4, hostOps0_5, hostOps0_6, hostOps0_7, hostOps0_8, hostOps0_9,
    hostOps0_10, List.flatten_cons, List.flatten_nil, List.cons_append, List.nil_append, List.append_nil]
  entry_read
  pointwise

/-- The weight is its argument. -/
theorem weight_read (i : S2x1024x5888.Idx) :
    (V m c main_v0 : FVec Ideal S2x1024x5888 .bf16) i = (m (c, Proc.tc.devRef main_arg1) : FVec Ideal S2x1024x5888 .f32) i := by
  simp only [V, hostOps0, hostOps0_1, hostOps0_2, hostOps0_3, hostOps0_4, hostOps0_5, hostOps0_6, hostOps0_7, hostOps0_8, hostOps0_9,
    hostOps0_10, List.flatten_cons, List.flatten_nil, List.cons_append, List.nil_append, List.append_nil]
  entry_read
  rfl

/-- The transposed weight is complete after the first line of host operations: nothing later writes it. -/
theorem turned_early : V m c main_v5 = StableHlo.after hostOps0 (fun b => m (c, b)) (Proc.devRef .tc main_v5) := by
  refine Eq.trans (show _ = StableHlo.after (List.flatten [hostOps0_1, hostOps0_2, hostOps0_3, hostOps0_4, hostOps0_5, hostOps0_6, hostOps0_7,
    hostOps0_8, hostOps0_9, hostOps0_10]) (StableHlo.after hostOps0 (fun b => m (c, b))) (Proc.devRef .tc main_v5) from rfl) ?_
  refine StableHlo.after_of_forall_not_mem _ _ (List.forall_iff_forall_mem.mp ?_)
  simp only [hostOps0_1, hostOps0_2, hostOps0_3, hostOps0_4, hostOps0_5, hostOps0_6, hostOps0_7, hostOps0_8, hostOps0_9, hostOps0_10,
    List.flatten_cons, List.flatten_nil, List.append_nil, List.cons_append, List.nil_append, List.Forall, StableHlo.nullary_writes,
    StableHlo.unary_writes, StableHlo.binary_writes, StableHlo.ternary_writes, StableHlo.quaternary_writes, StableHlo.reshape_writes,
    StableHlo.binaryIndexed_writes, StableHlo.unaryIndexed_writes, StableHlo.nary_writes, Finset.mem_singleton]
  repeat' apply And.intro
  all_goals exact StableHlo.devRef_ne_of_ne (by decide)

/-- The transposed weight's last 512 rows are the weight's key columns. -/
theorem turned_read (n : Fin 512) (k : Fin 1024) :
    (V m c main_v5 : FVec Ideal S2x1152x1024 .bf16) (ix3 1 ⟨640 + n.val, by omega⟩ k)
      = (m (c, Proc.tc.devRef main_arg1) : FVec Ideal S2x1024x5888 .f32) (ix3 1 k ⟨1280 + n.val, by omega⟩) := by
  rw [turned_early]
  show (transpose S2x1152x1024 [0, 2, 1] (concatenate S2x1024x1152 2
    [⟨S2x1024x512, extractStridedSlice S2x1024x512 ![0, 0, 0] (truncf (F := Ideal) .bf16 (m (c, Proc.tc.devRef main_arg1) : FVec Ideal S2x1024x5888 .f32) bitsLt_bf16_f32) slices_S2x1024x5888_S2x1024x512_0_0_0⟩,
     ⟨S2x1024x128, extractStridedSlice S2x1024x128 ![0, 0, 640] (truncf (F := Ideal) .bf16 (m (c, Proc.tc.devRef main_arg1) : FVec Ideal S2x1024x5888 .f32) bitsLt_bf16_f32) slices_S2x1024x5888_S2x1024x128_0_0_640⟩,
     ⟨S2x1024x512, extractStridedSlice S2x1024x512 ![0, 0, 1280] (truncf (F := Ideal) .bf16 (m (c, Proc.tc.devRef main_arg1) : FVec Ideal S2x1024x5888 .f32) bitsLt_bf16_f32) slices_S2x1024x5888_S2x1024x512_0_0_1280⟩]
    concatenates_S2x1024x512_S2x1024x128_S2x1024x512_S2x1024x1152_d2 : FVec Ideal S2x1024x1152 .bf16) transposes_S2x1024x1152_S2x1152x1024_0_2_1 : FVec Ideal S2x1152x1024 .bf16) _ = _
  generalize (m (c, Proc.tc.devRef main_arg1) : FVec Ideal S2x1024x5888 .f32) = W
  pointwise
  blk_point []

end Cert.Proj

end
-- ==== Proof.Proj.Reference.lean ====
/- The reference projection's four results at an element: products of a token with a column of the weight. -/
module

public import proofs.«01_k».proof.Proof.Gen.Reference4Ideal.Read
public import Idealize.ShloMosaic.Lib.IdealHost
public import Idealize.ShloMosaic.Lib.Pointwise
public import Idealize.ShloMosaic.Lib.Pipeline.ValueKit

@[expose] public section

set_option maxRecDepth 16384

noncomputable section

namespace Cert.Proj.Ref

open Cert.Reference4Ideal Cert.Reference4Ideal.Read Idealize.ShloMosaic Idealize.ShloMosaic.TcCoe Idealize.SL.Sem

variable (X : FVec Ideal S4x8192x1024 .f32) (W : FVec Ideal S2x1024x5888 .f32)

/-- A token's projection onto a column of the last layer's weight. -/
def proj (B : Fin 4) (s : Fin 8192) (n : Fin 5888) : EReal := ∑ k : Fin 1024, X (ix3 B s k) * W (ix3 1 k n)

/-- The product of the tokens and the weight, at an element. -/
theorem product_at (B : Fin 4) (s : Fin 8192) (n : Fin 5888) : val_main_v2 (F := Ideal) X W (ix3 B s n) = proj X W B s n := by
  rw [val_main_v2_apply]
  refine Finset.sum_congr rfl fun k _ => ?_
  rw [val_main_v1_apply, val_main_v0_apply]
  refine congrArg₂ (· * ·) (congrArg X ?_) (congrArg W ?_)
  all_goals blk_ext []

/-- A neighbourhood key. -/
theorem key_at (B : Fin 4) (n : Fin 512) (s : Fin 8192) :
    val_main_v21 (F := Ideal) X W (ix3 B n s) = proj X W B s ⟨1280 + n.val, by omega⟩ := by
  rw [← product_at, val_main_v21_apply, val_main_v14_apply, val_main_v4_apply]
  refine congrArg _ ?_
  blk_ext []

/-- A neighbourhood query, scaled. -/
theorem query_at (h : Fin 8) (R : Fin 32768) (d : Fin 64) :
    val_main_v22 (F := Ideal) X W (ix3 h R d)
      = proj X W ⟨R.val / 8192, by omega⟩ ⟨R.val % 8192, by omega⟩ ⟨768 + (h.val * 64 + d.val), by omega⟩ * Ideal.ofBits .f32 0x3E000000#32 := by
  rw [← product_at, val_main_v22_apply, val_main_v18_apply, val_main_v17_apply, val_main_cst_1_apply, val_main_v16_apply,
    val_main_v15_apply, val_main_v3_apply]
  refine congrArg (fun i => (val_main_v2 (F := Ideal) X W i * Ideal.ofBits .f32 0x3E000000#32 : EReal)) ?_
  blk_ext []

/-- A neighbourhood value. -/
theorem value_at (h : Fin 8) (R : Fin 32768) (d : Fin 64) :
    val_main_v23 (F := Ideal) X W (ix3 h R d)
      = proj X W ⟨R.val / 8192, by omega⟩ ⟨R.val % 8192, by omega⟩ ⟨1792 + (h.val * 64 + d.val), by omega⟩ := by
  rw [← product_at, val_main_v23_apply, val_main_v20_apply, val_main_v19_apply, val_main_v5_apply]
  refine congrArg _ ?_
  blk_ext []

/-- A gate: the logistic function of a projection. -/
theorem gate_at (R : Fin 32768) (n : Fin 3072) :
    val_main_v24 (F := Ideal) X W (ix2 R n)
      = Ideal.logistic (proj X W ⟨R.val / 8192, by omega⟩ ⟨R.val % 8192, by omega⟩ ⟨2816 + n.val, by omega⟩) := by
  rw [← product_at, val_main_v24_apply, val_main_v13_apply, val_main_v12_apply, val_main_v11_apply, val_main_cst_0_apply,
    val_main_v10_apply, val_main_v9_apply, val_main_cst_apply, val_main_v8_apply, val_main_v7_apply, val_main_v6_apply]
  have e : ∀ i, i = ix3 (⟨R.val / 8192, by omega⟩ : Fin 4) (⟨R.val % 8192, by omega⟩ : Fin 8192) (⟨2816 + n.val, by omega⟩ : Fin 5888) →
      Ideal.div (Ideal.ofBits .f32 0x3F800000#32) (Ideal.ofBits .f32 0x3F800000#32 + Ideal.exp (-(val_main_v2 (F := Ideal) X W i : EReal)))
        = Ideal.logistic (val_main_v2 (F := Ideal) X W (ix3 (⟨R.val / 8192, by omega⟩ : Fin 4) (⟨R.val % 8192, by omega⟩ : Fin 8192) (⟨2816 + n.val, by omega⟩ : Fin 5888))) := by
    intro i hi
    rw [hi, Ideal.ofBits_one_f32]
    rfl
  refine e _ ?_
  blk_ext []

end Cert.Proj.Ref

end
-- ==== Proof.Proj.Claims.lean ====
/- The projection's claims: the frames and the equality with the reference. -/
module

public import proofs.«01_k».proof.Defs
public import proofs.«01_k».proof.Proof.Gen.Kernel4.Frame
public import proofs.«01_k».proof.Proof.Gen.Kernel4Ideal.Value
public import proofs.«01_k».proof.Proof.Proj.Array
public import proofs.«01_k».proof.Proof.Proj.Operands
public import proofs.«01_k».proof.Proof.Proj.Reference
public import Idealize.ShloMosaic.Lib.Claim

@[expose] public section

set_option maxRecDepth 16384

noncomputable section

namespace Cert.Proj

open Idealize.ShloMosaic Idealize.ShloMosaic.TcCoe Idealize.SL.Sem

local instance : Cert.Kernel4.Facts := Cert.Kernel4.Gen.facts
local instance : Cert.Kernel4Ideal.Facts := Cert.Kernel4Ideal.Gen.facts
local instance : Cert.Reference4Ideal.Facts := Cert.Reference4Ideal.Gen.facts

/-- The kernel runs, leaves its arguments and ends quiescent. -/
theorem frame_kernel : Cert.quiescent_Kernel4 := fun m ρ _ => Cert.Kernel4.Gen.frame m ρ

/-- So does its idealization. -/
theorem frame_ideal : Cert.quiescent_Kernel4Ideal := fun m ρ _ => Cert.Kernel4Ideal.Gen.frame m ρ

/-- So does the reference: it has no semaphore. -/
theorem frame_reference : Cert.quiescent_Reference4Ideal := fun m ρ _ =>
  (θ_run Cert.Reference4Ideal.defs _ _).mono (fun r h => ⟨fun c => (h c).2.2.2.2, sem_eq_zero_of_no_sems (by decide) r.2⟩)
    (Cert.Reference4Ideal.Value.run (F := Ideal) m ρ)

section

open Cert.Kernel4Ideal Cert.Kernel4Ideal.Gen Cert.Reference4Ideal.Read

variable (m : (ℓ : Loc nD τ sig) → Buf (Elt Ideal) ℓ) (c : Dev nD)

/-- The launched tokens. -/
abbrev tokens : FVec Ideal S4x8192x1024 .f32 := m ((c : Thread nD τ).loc main_arg0)

/-- The launched weight. -/
abbrev weight : FVec Ideal S2x1024x5888 .f32 := m ((c : Thread nD τ).loc main_arg1)

/-- A row's projection in the region's arrays is its token's projection in the arguments. -/
theorem column_eq (R : Fin 32768) (n : Fin 5888) :
    column (V m c (Pipeline.arrRef spec0 0)) (V m c (Pipeline.arrRef spec0 2)) R n
      = Ref.proj (tokens m c) (weight m c) ⟨R.val / 8192, by omega⟩ ⟨R.val % 8192, by omega⟩ n :=
  Finset.sum_congr rfl fun k _ => congrArg₂ (· * ·) (rows_read m c R k) (weight_read m c (ix3 1 k n))

/-- So is a projection onto the transposed weight's last rows. -/
theorem turned_eq (R : Fin 32768) (n : Fin 512) (B : Fin 4) (s : Fin 8192) (hR : R.val = B.val * 8192 + s.val) :
    turned (V m c (Pipeline.arrRef spec0 0)) (V m c (Pipeline.arrRef spec0 1)) R ⟨640 + n.val, by omega⟩
      = Ref.proj (tokens m c) (weight m c) B s ⟨1280 + n.val, by omega⟩ := by
  refine Finset.sum_congr rfl fun k _ => (congrArg₂ (fun a b : EReal => a * b) (turned_read m c n k) (rows_read m c R k)).trans ((mul_comm (G := EReal) _ _).trans ?_)
  refine congrArg (fun i => tokens m c i * weight m c (ix3 1 k ⟨1280 + n.val, by omega⟩)) ?_
  blk_ext []

/-- The kernel's keys are the reference's. -/
theorem keys_value : (dats m 0 c).arrAt 14 cfg0.N = val_main_v21 (F := Ideal) (tokens m c) (weight m c) := by
  refine (final_keys m c).trans (funext fun i => ?_)
  refine Eq.trans ?_ ((Ref.key_at _ _ (i 0) (i 1) (i 2)).symm.trans (congrArg _ (eq_ix3 i).symm))
  exact turned_eq m c _ (i 1) (i 0) (i 2) rfl

/-- The kernel's queries are the reference's. -/
theorem queries_value : (dats m 0 c).arrAt 16 cfg0.N = val_main_v22 (F := Ideal) (tokens m c) (weight m c) := by
  refine (final_queries m c).trans (funext fun i => ?_)
  refine Eq.trans ?_ ((Ref.query_at _ _ (i 0) (i 1) (i 2)).symm.trans (congrArg _ (eq_ix3 i).symm))
  exact congrArg (· * Ideal.ofBits .f32 0x3E000000#32) (column_eq m c (i 1) _)

/-- The kernel's values are the reference's. -/
theorem values_value : (dats m 0 c).arrAt 17 cfg0.N = val_main_v23 (F := Ideal) (tokens m c) (weight m c) := by
  refine (final_values m c).trans (funext fun i => ?_)
  refine Eq.trans ?_ ((Ref.value_at _ _ (i 0) (i 1) (i 2)).symm.trans (congrArg _ (eq_ix3 i).symm))
  exact column_eq m c (i 1) _

/-- The kernel's gates are the reference's. -/
theorem gates_value : (dats m 0 c).arrAt 19 cfg0.N = val_main_v24 (F := Ideal) (tokens m c) (weight m c) := by
  refine (final_gates m c).trans (funext fun i => ?_)
  refine Eq.trans ?_ ((Ref.gate_at _ _ (i 0) (i 1)).symm.trans (congrArg _ (eq_ix2 i).symm))
  exact congrArg Ideal.logistic (column_eq m c (i 0) _)

end

/-- Over the extended reals the kernel and the reference end with the same four results. -/
theorem algebraic : Cert.algebraic_Kernel4Ideal_Reference4Ideal := fun m ρ m' ρ' hpre hag =>
  ⟨fun c => Cert.Reference4Ideal.Read.val_main_v21 (F := Ideal) (tokens m c) (weight m c),
    fun c => Cert.Reference4Ideal.Read.val_main_v22 (F := Ideal) (tokens m c) (weight m c),
    fun c => Cert.Reference4Ideal.Read.val_main_v23 (F := Ideal) (tokens m c) (weight m c),
    fun c => Cert.Reference4Ideal.Read.val_main_v24 (F := Ideal) (tokens m c) (weight m c),
    (θ_run _ _ _).mono (fun _ h c => by
      obtain ⟨_, _, h2, _, h4, h5, _, h7, ha⟩ := h c
      exact ⟨h2.trans (keys_value m c), h4.trans (queries_value m c), h5.trans (values_value m c), h7.trans (gates_value m c), ha⟩)
      (Cert.Kernel4Ideal.Value.run_blocks m ρ),
    (θ_run _ _ _).mono (fun _ h c => by
      obtain ⟨h1, h2, h3, h4, ha⟩ := h c
      refine ⟨h1.trans ?_, h2.trans ?_, h3.trans ?_, h4.trans ?_, ha⟩
      · rw [Cert.Reference4Ideal.Read.val_main_v21_eq, (hag c).1, (hag c).2.1]
      · rw [Cert.Reference4Ideal.Read.val_main_v22_eq, (hag c).1, (hag c).2.1]
      · rw [Cert.Reference4Ideal.Read.val_main_v23_eq, (hag c).1, (hag c).2.1]
      · rw [Cert.Reference4Ideal.Read.val_main_v24_eq, (hag c).1, (hag c).2.1])
      (Cert.Reference4Ideal.Value.run (F := Ideal) m' ρ')⟩

end Cert.Proj

end
-- ==== Proof.lean ====
module

public import proofs.«01_k».proof.Defs
public import proofs.«01_k».proof.Proof.Attention.Claims
public import proofs.«01_k».proof.Proof.Ffn.Claims
public import proofs.«01_k».proof.Proof.Proj.Claims

@[expose] public section

noncomputable section

namespace Cert.Proof

open Cert.Attention

/-- Every claim of this proof's programs holds. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel4.Gen.facts, Cert.Kernel4Ideal.Gen.facts, Cert.Reference4Ideal.Gen.facts, Cert.Pre_attention_inputs_finite.Gen.facts,
    frame_kernel, frame_ideal, fun m ρ _ => frame_ideal m ρ trivial, frame_reference, fun m ρ _ => frame_reference m ρ trivial,
    Cert.Ffn.frame_kernel, Cert.Ffn.frame_ideal, Cert.Ffn.frame_reference,
    Cert.Proj.frame_kernel, Cert.Proj.frame_ideal, Cert.Proj.frame_reference,
    Cert.Attention.preserves, Cert.Attention.algebraic, trivial, Cert.Ffn.algebraic, trivial, Cert.Proj.algebraic⟩

end Cert.Proof

end
